-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cross_matrix [hPre_cross_matrix : Cert.Pre_cross_matrix.Facts] (m : (ℓ : Loc Cert.KernelIdeal.nD Cert.KernelIdeal.τ Cert.KernelIdeal.sig) → Buf (Elt Ideal) ℓ) : Prop :=
  ∀ c : Dev Cert.KernelIdeal.nD,
    (Cert.Pre_cross_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_cross_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_cross_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_cross_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_cross_matrix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cross_matrix [hPre_cross_matrix : Cert.Pre_cross_matrix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cross_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_cross_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_cross_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_cross_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_cross_matrix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_cross_matrix [hKernelIdeal : Cert.KernelIdeal.Facts] [hPre_cross_matrix : Cert.Pre_cross_matrix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cross_matrix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_cross_matrix [hReferenceIdeal : Cert.ReferenceIdeal.Facts] [hPre_cross_matrix : Cert.Pre_cross_matrix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cross_matrix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_cross_matrix [hKernelIdeal : Cert.KernelIdeal.Facts] [hReferenceIdeal : Cert.ReferenceIdeal.Facts] [hPre_cross_matrix : Cert.Pre_cross_matrix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cross_matrix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_cross_matrix : Cert.Pre_cross_matrix.Facts),
    quiescent_Kernel (hKernel := hKernel)
    ∧ quiescent_KernelIdeal (hKernelIdeal := hKernelIdeal)
    ∧ quiescent_KernelIdeal_pre_cross_matrix (hKernelIdeal := hKernelIdeal) (hPre_cross_matrix := hPre_cross_matrix)
    ∧ quiescent_ReferenceIdeal (hReferenceIdeal := hReferenceIdeal)
    ∧ quiescent_ReferenceIdeal_pre_cross_matrix (hReferenceIdeal := hReferenceIdeal) (hPre_cross_matrix := hPre_cross_matrix)
    ∧ preserves_Kernel_KernelIdeal
    ∧ algebraic_KernelIdeal_ReferenceIdeal_pre_cross_matrix (hKernelIdeal := hKernelIdeal) (hReferenceIdeal := hReferenceIdeal) (hPre_cross_matrix := hPre_cross_matrix)
-- ==== Pre_cross_matrix.lean ====
abbrev S8x16384x128 : Shape := ⟨3, ![8, 16384, 128]⟩
abbrev S8x4096x128 : Shape := ⟨3, ![8, 4096, 128]⟩
abbrev S128x128 : Shape := ⟨2, ![128, 128]⟩
abbrev S128 : Shape := ⟨1, ![128]⟩
abbrev S16384 : Shape := ⟨1, ![16384]⟩
abbrev S2x2x64x64 : Shape := ⟨4, ![2, 2, 64, 64]⟩
abbrev S4x4096 : Shape := ⟨2, ![4, 4096]⟩
abbrev S_ : Shape := ⟨0, ![]⟩
abbrev S4096 : Shape := ⟨1, ![4096]⟩

class Facts : Prop where
  shapeCasts_S16384_S4x4096 : S16384.ShapeCasts S4x4096
  shapeCasts_S16384_S2x2x64x64 : S16384.ShapeCasts S2x2x64x64
  bcast_S_S2x2x64x64 : S_.BroadcastsInDim S2x2x64x64 (![] : Fin 0 → Fin S2x2x64x64.rank)
  slices_S16384_S4096_0 : S16384.Slices ![0] S4096
  bcast_S4096_S4x4096_1 : S4096.BroadcastsInDim S4x4096 (![1] : Fin 1 → Fin S4x4096.rank)
  bcast_S_S16384 : S_.BroadcastsInDim S16384 (![] : Fin 0 → Fin S16384.rank)

variable [Facts]

def fn_part1 {F : FTy → Type} [FloatOps F] (main_arg10 : FVec F S16384 .f32) (main_v4 : FVec F S4x4096 .f32) (main_v9 : IVec S2x2x64x64 1) (main_v10 : IVec S2x2x64x64 32) (main_v19 : IVec S2x2x64x64 32) : IVec S2x2x64x64 1 × IVec S2x2x64x64 1 × IVec S4x4096 1 × IVec S16384 1 × IVec S16384 1 :=
  let main_v20 : IVec S2x2x64x64 1 := cmpi .eq main_v10 main_v19
  let main_v21 : FVec F S4096 .f32 := (extractStridedSlice S4096 ![0] · slices_S16384_S4096_0) main_arg10
  let main_v22 : FVec F S4x4096 .f32 := broadcastInDim S4x4096 ![1] bcast_S4096_S4x4096_1 main_v21
  let main_v23 : IVec S4x4096 1 := cmpf .oeq main_v4 main_v22
  let main_cst : FVec F S_ .f32 := constant S_ .f32 0x00000000#32
  let main_v24 : FVec F S16384 .f32 := broadcastInDim S16384 ![] bcast_S_S16384 main_cst
  let main_v25 : IVec S16384 1 := cmpf .oge main_arg10 main_v24
  let main_cst_3 : FVec F S_ .f32 := constant S_ .f32 0x7F800000#32
  let main_v26 : FVec F S16384 .f32 := broadcastInDim S16384 ![] bcast_S_S16384 main_cst_3
  let main_v27 : IVec S16384 1 := cmpf .olt main_arg10 main_v26
  (main_v9, main_v20, main_v23, main_v25, main_v27)

def fn {F : FTy → Type} [FloatOps F] (main_arg0 : FVec F S8x16384x128 .f32) (main_arg1 : FVec F S8x4096x128 .f32) (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : IVec S16384 32) (main_arg9 : IVec S16384 32) (main_arg10 : FVec F S16384 .f32) : IVec S2x2x64x64 1 × IVec S2x2x64x64 1 × IVec S4x4096 1 × IVec S16384 1 × IVec S16384 1 :=
  let main_v0 : IVec S2x2x64x64 32 := iotaInDim S2x2x64x64 32 0
  let main_v1 : IVec S2x2x64x64 32 := iotaInDim S2x2x64x64 32 1
  let main_v2 : IVec S2x2x64x64 32 := iotaInDim S2x2x64x64 32 2
  let main_v3 : IVec S2x2x64x64 32 := iotaInDim S2x2x64x64 32 3
  let main_v4 : FVec F S4x4096 .f32 := shapeCast S4x4096 main_arg10 shapeCasts_S16384_S4x4096
  let main_v5 : IVec S2x2x64x64 32 := shapeCast S2x2x64x64 main_arg8 shapeCasts_S16384_S2x2x64x64
  let main_c : IVec S_ 32 := constantI S_ 32 64#32
  let main_v6 : IVec S2x2x64x64 32 := broadcastInDim S2x2x64x64 ![] bcast_S_S2x2x64x64 main_c
  let main_v7 : IVec S2x2x64x64 32 := muli main_v6 main_v2
  let main_v8 : IVec S2x2x64x64 32 := addi main_v7 main_v3
  let main_v9 : IVec S2x2x64x64 1 := cmpi .eq main_v5 main_v8
  let main_v10 : IVec S2x2x64x64 32 := shapeCast S2x2x64x64 main_arg9 shapeCasts_S16384_S2x2x64x64
  let main_c_0 : IVec S_ 32 := constantI S_ 32 2#32
  let main_v11 : IVec S2x2x64x64 32 := broadcastInDim S2x2x64x64 ![] bcast_S_S2x2x64x64 main_c_0
  let main_v12 : IVec S2x2x64x64 32 := muli main_v11 main_v2
  let main_v13 : IVec S2x2x64x64 32 := addi main_v12 main_v0
  let main_c_1 : IVec S_ 32 := constantI S_ 32 128#32
  let main_v14 : IVec S2x2x64x64 32 := broadcastInDim S2x2x64x64 ![] bcast_S_S2x2x64x64 main_c_1
  let main_v15 : IVec S2x2x64x64 32 := muli main_v14 main_v13
  let main_c_2 : IVec S_ 32 := constantI S_ 32 2#32
  let main_v16 : IVec S2x2x64x64 32 := broadcastInDim S2x2x64x64 ![] bcast_S_S2x2x64x64 main_c_2
  let main_v17 : IVec S2x2x64x64 32 := muli main_v16 main_v3
  let main_v18 : IVec S2x2x64x64 32 := addi main_v17 main_v1
  let main_v19 : IVec S2x2x64x64 32 := addi main_v15 main_v18
  fn_part1 (F := F) main_arg10 main_v4 main_v9 main_v10 main_v19
-- ==== Kernel.lean ====
abbrev S8x16384x128 : Shape := ⟨3, ![8, 16384, 128]⟩
abbrev S8x4096x128 : Shape := ⟨3, ![8, 4096, 128]⟩
abbrev S128x128 : Shape := ⟨2, ![128, 128]⟩
abbrev S128 : Shape := ⟨1, ![128]⟩
abbrev S16384 : Shape := ⟨1, ![16384]⟩
abbrev S131072x128 : Shape := ⟨2, ![131072, 128]⟩
abbrev S32768x128 : Shape := ⟨2, ![32768, 128]⟩
abbrev S4096 : Shape := ⟨1, ![4096]⟩
abbrev S4096x1 : Shape := ⟨2, ![4096, 1]⟩
abbrev S64x128 : Shape := ⟨2, ![64, 128]⟩
abbrev S_ : Shape := ⟨0, ![]⟩
abbrev S128x64 : Shape := ⟨2, ![128, 64]⟩
abbrev S1x128 : Shape := ⟨2, ![1, 128]⟩
abbrev S16384x128 : Shape := ⟨2, ![16384, 128]⟩
abbrev S4096x128 : Shape := ⟨2, ![4096, 128]⟩

abbrev nBuf : Space → Nat
  | .hbm => 48
  | .vmem => 17
  | .smem => 0
  | _ => 0

abbrev bufTy : (tb : Table) → Fin (tcTables nBuf tb) → BufTy
  | .hbm, ⟨0, _⟩ => ⟨S8x16384x128, .f32⟩
  | .hbm, ⟨1, _⟩ => ⟨S8x4096x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S16384, .i32⟩
  | .hbm, ⟨9, _⟩ => ⟨S16384, .i32⟩
  | .hbm, ⟨10, _⟩ => ⟨S16384, .f32⟩
  | .hbm, ⟨11, _⟩ => ⟨S131072x128, .f32⟩
  | .hbm, ⟨12, _⟩ => ⟨S32768x128, .f32⟩
  | .hbm, ⟨13, _⟩ => ⟨S4096, .f32⟩
  | .hbm, ⟨14, _⟩ => ⟨S4096x1, .f32⟩
  | .hbm, ⟨15, _⟩ => ⟨S64x128, .i32⟩
  | .hbm, ⟨16, _⟩ => ⟨S64x128, .i32⟩
  | .hbm, ⟨17, _⟩ => ⟨S_, .i32⟩
  | .hbm, ⟨18, _⟩ => ⟨S_, .i32⟩
  | .hbm, ⟨19, _⟩ => ⟨S64x128, .i32⟩
  | .hbm, ⟨20, _⟩ => ⟨S64x128, .i32⟩
  | .hbm, ⟨21, _⟩ => ⟨S64x128, .i32⟩
  | .hbm, ⟨22, _⟩ => ⟨S_, .i32⟩
  | .hbm, ⟨23, _⟩ => ⟨S64x128, .i32⟩
  | .hbm, ⟨24, _⟩ => ⟨S64x128, .i1⟩
  | .hbm, ⟨25, _⟩ => ⟨S64x128, .i32⟩
  | .hbm, ⟨26, _⟩ => ⟨S64x128, .i32⟩
  | .hbm, ⟨27, _⟩ => ⟨S_, .i32⟩
  | .hbm, ⟨28, _⟩ => ⟨S64x128, .i32⟩
  | .hbm, ⟨29, _⟩ => ⟨S64x128, .i1⟩
  | .hbm, ⟨30, _⟩ => ⟨S64x128, .i1⟩
  | .hbm, ⟨31, _⟩ => ⟨S_, .i32⟩
  | .hbm, ⟨32, _⟩ => ⟨S64x128, .i32⟩
  | .hbm, ⟨33, _⟩ => ⟨S64x128, .i32⟩
  | .hbm, ⟨34, _⟩ => ⟨S64x128, .i32⟩
  | .hbm, ⟨35, _⟩ => ⟨S64x128, .i1⟩
  | .hbm, ⟨36, _⟩ => ⟨S64x128, .f32⟩
  | .hbm, ⟨37, _⟩ => ⟨S128x64, .f32⟩
  | .hbm, ⟨38, _⟩ => ⟨S128x128, .f32⟩
  | .hbm, ⟨39, _⟩ => ⟨S128x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S32768x128, .f32⟩
  | .hbm, ⟨45, _⟩ => ⟨S131072x128, .f32⟩
  | .hbm, ⟨46, _⟩ => ⟨S8x16384x128, .f32⟩
  | .hbm, ⟨47, _⟩ => ⟨S8x4096x128, .f32⟩
  | .local _ .vmem, ⟨0, _⟩ => ⟨S16384x128, .f32⟩
  | .local _ .vmem, ⟨1, _⟩ => ⟨S16384x128, .f32⟩
  | .local _ .vmem, ⟨2, _⟩ => ⟨S4096x128, .f32⟩
  | .local _ .vmem, ⟨3, _⟩ => ⟨S4096x128, .f32⟩
  | .local _ .vmem, ⟨4, _⟩ => ⟨S4096x1, .f32⟩
  | .local _ .vmem, ⟨5, _⟩ => ⟨S64x128, .f32⟩
  | .local _ .vmem, ⟨6, _⟩ => ⟨S128x64, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S4096x128, .f32⟩
  | .local _ .vmem, ⟨14, _⟩ => ⟨S4096x128, .f32⟩
  | .local _ .vmem, ⟨15, _⟩ => ⟨S16384x128, .f32⟩
  | .local _ .vmem, ⟨16, _⟩ => ⟨S16384x128, .f32⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16_0 : Ref sig .tc := ⟨.hbm, 44, rfl⟩
abbrev main_v16_1 : Ref sig .tc := ⟨.hbm, 45, rfl⟩
abbrev main_v17 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x16384x128 : Shape := ⟨3, ![8, 16384, 128]⟩
abbrev S8x4096x128 : Shape := ⟨3, ![8, 4096, 128]⟩
abbrev S128x128 : Shape := ⟨2, ![128, 128]⟩
abbrev S128 : Shape := ⟨1, ![128]⟩
abbrev S16384 : Shape := ⟨1, ![16384]⟩
abbrev S16384x8x128 : Shape := ⟨3, ![16384, 8, 128]⟩
abbrev S16384x1024 : Shape := ⟨2, ![16384, 1024]⟩
abbrev S16384x1 : Shape := ⟨2, ![16384, 1]⟩
abbrev S_ : Shape := ⟨0, ![]⟩
abbrev S4096x1024 : Shape := ⟨2, ![4096, 1024]⟩
abbrev S4096x8x128 : Shape := ⟨3, ![4096, 8, 128]⟩
abbrev S8x4096 : Shape := ⟨2, ![8, 4096]⟩
abbrev S8x4096x1 : Shape := ⟨3, ![8, 4096, 1]⟩
abbrev S1x1x128 : Shape := ⟨3, ![1, 1, 128]⟩
abbrev S8x16384 : Shape := ⟨2, ![8, 16384]⟩
abbrev S8x16384x1 : Shape := ⟨3, ![8, 16384, 1]⟩

abbrev nBuf : Space → Nat
  | .hbm => 149
  | .vmem => 0
  | .smem => 0
  | _ => 0

abbrev hbmTy0_0 (i : Nat) : BufTy := match i % 128 with
  | 0 => ⟨S8x16384x128, .f32⟩
  | 1 => ⟨S8x4096x128, .f32⟩
  | 2 => ⟨S128x128, .f32⟩
  | 3 => ⟨S128x128, .f32⟩
  | 4 => ⟨S128, .f32⟩
  | 5 => ⟨S128, .f32⟩
  | 6 => ⟨S128, .f32⟩
  | 7 => ⟨S128, .f32⟩
  | 8 => ⟨S16384, .i32⟩
  | 9 => ⟨S16384, .i32⟩
  | 10 => ⟨S16384, .f32⟩
  | 11 => ⟨S16384x8x128, .f32⟩
  | 12 => ⟨S16384x1024, .f32⟩
  | 13 => ⟨S16384x1, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S16384x1024, .f32⟩
  | 23 => ⟨S16384x1024, .f32⟩
  | 24 => ⟨S16384x1024, .f32⟩
  | 25 => ⟨S_, .f32⟩
  | 26 => ⟨S4096x1024, .f32⟩
  | 27 => ⟨S16384x1, .i32⟩
  | 28 => ⟨S4096x1024, .f32⟩
  | 29 => ⟨S4096x8x128, .f32⟩
  | 30 => ⟨S8x4096x128, .f32⟩
  | 31 => ⟨S128x128, .f32⟩
  | 32 => ⟨S8x4096x128, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .i32⟩
  | 40 => ⟨S_, .f32⟩
  | 41 => ⟨S8x4096, .f32⟩
  | 42 => ⟨S8x4096x1, .f32⟩
  | 43 => ⟨S_, .f32⟩
  | 44 => ⟨S8x4096x1, .f32⟩
  | 45 => ⟨S8x4096x1, .f32⟩
  | 46 => ⟨S8x4096x128, .f32⟩
  | 47 => ⟨S8x4096x128, .f32⟩
  | 48 => ⟨S8x4096x128, .f32⟩
  | 49 => ⟨S_, .f32⟩
  | 50 => ⟨S_, .f32⟩
  | 51 => ⟨S_, .f32⟩
  | 52 => ⟨S_, .f32⟩
  | 53 => ⟨S8x4096, .f32⟩
  | 54 => ⟨S8x4096x1, .f32⟩
  | 55 => ⟨S8x4096x1, .f32⟩
  | 56 => ⟨S8x4096x1, .f32⟩
  | 57 => ⟨S_, .f32⟩
  | 58 => ⟨S_, .i1⟩
  | 59 => ⟨S_, .f32⟩
  | 60 => ⟨S_, .f32⟩
  | 61 => ⟨S8x4096x1, .f32⟩
  | 62 => ⟨S8x4096x1, .f32⟩
  | 63 => ⟨S8x4096x128, .f32⟩
  | 64 => ⟨S8x4096x128, .f32⟩
  | 65 => ⟨S_, .f32⟩
  | 66 => ⟨S8x4096x1, .f32⟩
  | 67 => ⟨S8x4096x1, .f32⟩
  | 68 => ⟨S8x4096x1, .f32⟩
  | 69 => ⟨S8x4096x128, .f32⟩
  | 70 => ⟨S8x4096x128, .f32⟩
  | 71 => ⟨S1x1x128, .f32⟩
  | 72 => ⟨S8x4096x128, .f32⟩
  | 73 => ⟨S8x4096x128, .f32⟩
  | 74 => ⟨S1x1x128, .f32⟩
  | 75 => ⟨S8x4096x128, .f32⟩
  | 76 => ⟨S8x4096x128, .f32⟩
  | 77 => ⟨S_, .f32⟩
  | 78 => ⟨S8x4096x128, .f32⟩
  | 79 => ⟨S8x4096x128, .f32⟩
  | 80 => ⟨S4096x8x128, .f32⟩
  | 81 => ⟨S4096x1024, .f32⟩
  | 82 => ⟨S16384x1, .f32⟩
  | 83 => ⟨S_, .i32⟩
  | 84 => ⟨S16384, .i32⟩
  | 85 => ⟨S16384, .i1⟩
  | 86 => ⟨S_, .i32⟩
  | 87 => ⟨S16384, .i32⟩
  | 88 => ⟨S16384, .i32⟩
  | 89 => ⟨S16384, .i32⟩
  | 90 => ⟨S16384x1, .i32⟩
  | 91 => ⟨S16384x1024, .f32⟩
  | 92 => ⟨S16384x1024, .f32⟩
  | 93 => ⟨S16384x1024, .f32⟩
  | 94 => ⟨S_, .f32⟩
  | 95 => ⟨S16384x1024, .f32⟩
  | 96 => ⟨S16384x1, .i32⟩
  | 97 => ⟨S16384x1024, .f32⟩
  | 98 => ⟨S16384x8x128, .f32⟩
  | 99 => ⟨S8x16384x128, .f32⟩
  | 100 => ⟨S128x128, .f32⟩
  | 101 => ⟨S8x16384x128, .f32⟩
  | 102 => ⟨S_, .f32⟩
  | 103 => ⟨S8x16384, .f32⟩
  | 104 => ⟨S8x16384x1, .f32⟩
  | 105 => ⟨S_, .f32⟩
  | 106 => ⟨S8x16384x1, .f32⟩
  | 107 => ⟨S8x16384x1, .f32⟩
  | 108 => ⟨S_, .i32⟩
  | 109 => ⟨S_, .f32⟩
  | 110 => ⟨S8x16384, .f32⟩
  | 111 => ⟨S8x16384x1, .f32⟩
  | 112 => ⟨S_, .f32⟩
  | 113 => ⟨S8x16384x1, .f32⟩
  | 114 => ⟨S8x16384x1, .f32⟩
  | 115 => ⟨S8x16384x128, .f32⟩
  | 116 => ⟨S8x16384x128, .f32⟩
  | 117 => ⟨S8x16384x128, .f32⟩
  | 118 => ⟨S_, .f32⟩
  | 119 => ⟨S_, .f32⟩
  | 120 => ⟨S_, .f32⟩
  | 121 => ⟨S_, .f32⟩
  | 122 => ⟨S8x16384, .f32⟩
  | 123 => ⟨S8x16384x1, .f32⟩
  | 124 => ⟨S8x16384x1, .f32⟩
  | 125 => ⟨S8x16384x1, .f32⟩
  | 126 => ⟨S_, .f32⟩
  | 127 => ⟨S_, .i1⟩
  | _ => ⟨S8x16384x128, .f32⟩

abbrev hbmTy0_1 (i : Nat) : BufTy := match i % 128 with
  | 0 => ⟨S_, .f32⟩
  | 1 => ⟨S_, .f32⟩
  | 2 => ⟨S8x16384x1, .f32⟩
  | 3 => ⟨S8x16384x1, .f32⟩
  | 4 => ⟨S8x16384x128, .f32⟩
  | 5 => ⟨S8x16384x128, .f32⟩
  | 6 => ⟨S_, .f32⟩
  | 7 => ⟨S8x16384x1, .f32⟩
  | 8 => ⟨S8x16384x1, .f32⟩
  | 9 => ⟨S8x16384x1, .f32⟩
  | 10 => ⟨S8x16384x128, .f32⟩
  | 11 => ⟨S8x16384x128, .f32⟩
  | 12 => ⟨S1x1x128, .f32⟩
  | 13 => ⟨S8x16384x128, .f32⟩
  | 14 => ⟨S8x16384x128, .f32⟩
  | 15 => ⟨S1x1x128, .f32⟩
  | 16 => ⟨S8x16384x128, .f32⟩
  | 17 => ⟨S8x16384x128, .f32⟩
  | 18 => ⟨S_, .f32⟩
  | 19 => ⟨S8x16384x128, .f32⟩
  | 20 => ⟨S8x16384x128, .f32⟩
  | _ => ⟨S8x16384x128, .f32⟩

abbrev hbmTy (i : Nat) : BufTy := match i / 128 with
  | 0 => hbmTy0_0 i
  | 1 => hbmTy0_1 i
  | _ => ⟨S8x16384x128, .f32⟩

abbrev bufTy : (tb : Table) → Fin (tcTables nBuf tb) → BufTy
  | .hbm, ⟨i, _⟩ => hbmTy i
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_cst_3 : Ref sig .tc := ⟨.hbm, 57, rfl⟩
abbrev main_call0_v13 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_4 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_call1_cst : Ref sig .tc := ⟨.hbm, 77, rfl⟩
abbrev main_call1_v0 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_5 : Ref sig .tc := ⟨.hbm, 83, rfl⟩
abbrev main_v41 : Ref sig .tc := ⟨.hbm, 84, rfl⟩
abbrev main_v42 : Ref sig .tc := ⟨.hbm, 85, rfl⟩
abbrev main_c_6 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_7 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_8 : Ref sig .tc := ⟨.hbm, 102, rfl⟩
abbrev main_v57 : Ref sig .tc := ⟨.hbm, 103, rfl⟩
abbrev main_v58 : Ref sig .tc := ⟨.hbm, 104, rfl⟩
abbrev main_cst_9 : Ref sig .tc := ⟨.hbm, 105, rfl⟩
abbrev main_v59 : Ref sig .tc := ⟨.hbm, 106, rfl⟩
abbrev main_v60 : Ref sig .tc := ⟨.hbm, 107, rfl⟩
abbrev main_c_10 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_v6 : Ref sig .tc := ⟨.hbm, 117, rfl⟩
abbrev main_call2_v7 : Ref sig .tc := ⟨.hbm, 118, rfl⟩
abbrev main_call2_cst_1 : Ref sig .tc := ⟨.hbm, 119, rfl⟩
abbrev main_call2_v8 : Ref sig .tc := ⟨.hbm, 120, rfl⟩
abbrev main_call2_cst_2 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_v12 : Ref sig .tc := ⟨.hbm, 125, rfl⟩
abbrev main_call2_cst_3 : Ref sig .tc := ⟨.hbm, 126, rfl⟩
abbrev main_call2_v13 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_cst_11 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_call3_cst : Ref sig .tc := ⟨.hbm, 146, rfl⟩
abbrev main_call3_v0 : Ref sig .tc := ⟨.hbm, 147, rfl⟩
abbrev main_v75 : Ref sig .tc := ⟨.hbm, 148, rfl⟩

abbrev nD : Nat := 1
abbrev τ : Topo := Topo.v7x

variable {F : FTy → Type} [FloatOps F]
-- ==== Proof.Algebra.lean ====
/- The mathematics that the two programs share, on extended reals and free of either program: a normalised row with its
   two spellings, the constant factor pulled out of a sum, and the one-hot sums. -/
module

public import Idealize.ShloMosaic.Lib.ValueIdx
public import Idealize.ShloMosaic.PureOps.Ideal.Laws

@[expose] public section

noncomputable section

namespace Cert.Cross

open Idealize.ShloMosaic
open scoped BigOperators

/-- The row length as both programs write it: the single-precision word of 128. -/
def len : EReal := Ideal.ofBits .f32 0x43000000#32

/-- The small number that both programs add to a variance: the single-precision word nearest to `1e-5`. -/
def eps : EReal := Ideal.ofBits .f32 0x3727C5AC#32

theorem len_eq : len = ((128 : ℝ) : EReal) := by
  unfold len
  simp [Ideal.ofBits, Ideal.ieee, -EReal.coe_mul]; norm_num

theorem eps_pos : ∃ r : ℝ, 0 < r ∧ eps = (r : EReal) := by
  refine ⟨_, ?_, by unfold eps; simp [Ideal.ofBits, Ideal.ieee, -EReal.coe_mul]; rfl⟩
  norm_num

/-- The mean of a row. -/
def mean (y : Fin 128 → EReal) : EReal := Ideal.div (∑ j, y j) len

/-- The variance of a row: the mean of the squared deviations. -/
def var (y : Fin 128 → EReal) : EReal := mean fun j => (y j - mean y) * (y j - mean y)

/-- Layer normalisation and the clamp at zero, the deviation MULTIPLIED by the reciprocal root. -/
def lnMul (g b y : Fin 128 → EReal) (j : Fin 128) : EReal :=
  max ((y j - mean y) * Ideal.rsqrt (var y + eps) * g j + b j) 0

/-- Layer normalisation and the clamp at zero, the deviation DIVIDED by the root. -/
def lnDiv (g b y : Fin 128 → EReal) (j : Fin 128) : EReal :=
  max (Ideal.div (y j - mean y) (Ideal.sqrt (var y + eps)) * g j + b j) 0

theorem mul_self_nonneg' (x : EReal) : 0 ≤ x * x := by
  rcases le_total 0 x with h | h
  · exact mul_nonneg h h
  · rw [← neg_mul_neg]
    exact mul_nonneg (EReal.neg_nonneg.mpr h) (EReal.neg_nonneg.mpr h)

theorem mean_nonneg {y : Fin 128 → EReal} (h : ∀ j, 0 ≤ y j) : 0 ≤ mean y := by
  unfold mean
  rw [len_eq, Ideal.div_coe (by norm_num)]
  exact mul_nonneg (Finset.sum_nonneg fun j _ => h j) (by exact_mod_cast (by norm_num : (0 : ℝ) ≤ 1 / 128))

theorem var_nonneg (y : Fin 128 → EReal) : 0 ≤ var y := mean_nonneg fun _ => mul_self_nonneg' _

/-- Dividing by the root of a variance and multiplying by its reciprocal root agree, at infinite variances also. -/
theorem div_sqrt_eq (x v : EReal) (hv : 0 ≤ v) : Ideal.div x (Ideal.sqrt (v + eps)) = x * Ideal.rsqrt (v + eps) := by
  obtain ⟨e, he, heq⟩ := eps_pos
  rw [heq]
  induction v with
  | bot => exact absurd hv (by simp)
  | top =>
    rw [EReal.top_add_coe]
    have h1 : Ideal.sqrt (⊤ : EReal) = ⊤ := rfl
    have h2 : Ideal.rsqrt (⊤ : EReal) = 0 := rfl
    rw [h1, h2]
    unfold Ideal.div
    rw [if_neg EReal.top_ne_zero, EReal.inv_top]
  | coe r =>
    have hr : 0 ≤ r := by exact_mod_cast hv
    have hs : 0 < r + e := by linarith
    have hq : √(r + e) ≠ 0 := (Real.sqrt_pos.mpr hs).ne'
    rw [← EReal.coe_add]
    have h1 : Ideal.sqrt ((r + e : ℝ) : EReal) = ((√(r + e) : ℝ) : EReal) := by
      show (if r + e < 0 then (⊥ : EReal) else ((√(r + e) : ℝ) : EReal)) = _
      rw [if_neg (not_lt.mpr hs.le)]
    have h2 : Ideal.rsqrt ((r + e : ℝ) : EReal) = (((√(r + e))⁻¹ : ℝ) : EReal) := by
      show (if r + e < 0 then (⊥ : EReal) else if r + e = 0 then ⊤ else (((√(r + e))⁻¹ : ℝ) : EReal)) = _
      rw [if_neg (not_lt.mpr hs.le), if_neg hs.ne']
    rw [h1, h2, Ideal.div_coe hq, one_div]

theorem lnDiv_eq (g b y : Fin 128 → EReal) (j : Fin 128) : lnDiv g b y j = lnMul g b y j := by
  unfold lnDiv lnMul
  rw [div_sqrt_eq _ _ (var_nonneg y)]

/-- A nonnegative finite factor goes into a finite sum. -/
theorem mul_sum_of_nonneg {ι : Type} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- A one-hot sum on the left factor, the hot position being one position. -/
theorem sum_onehot {n : ℕ} (p : Fin n → Prop) [DecidablePred p] (f : Fin n → EReal) (a : Fin n) (h : ∀ k, p k ↔ k = a) :
    ∑ k, (if p k then (1 : EReal) else 0) * f k = f a := by
  rw [Finset.sum_eq_single a]
  · rw [if_pos ((h a).mpr rfl), one_mul]
  · intro k _ hk
    rw [if_neg (fun hp => hk ((h k).mp hp)), zero_mul]
  · intro ha; exact absurd (Finset.mem_univ a) ha

/-- A one-hot sum on the left factor, the hot positions being two. -/
theorem sum_twohot {n : ℕ} (p : Fin n → Prop) [DecidablePred p] (f : Fin n → EReal) (a b : Fin n) (hab : a ≠ b)
    (h : ∀ k, p k ↔ k = a ∨ k = b) : ∑ k, (if p k then (1 : EReal) else 0) * f k = f a + f b := by
  have h1 : ∀ k, (if p k then (1 : EReal) else 0) * f k = if k = a ∨ k = b then f k else 0 := fun k => by
    by_cases hk : p k
    · rw [if_pos hk, if_pos ((h k).mp hk), one_mul]
    · rw [if_neg hk, if_neg (fun h' => hk ((h k).mpr h')), zero_mul]
  rw [Finset.sum_congr rfl fun k _ => h1 k, ← Finset.sum_filter]
  have h2 : (Finset.univ.filter fun k : Fin n => k = a ∨ k = b) = {a, b} := by
    ext k; simp
  rw [h2, Finset.sum_pair hab]

/-- The sum over the positions of one remainder, read block by block. -/
theorem sum_fibre {N K : ℕ} (f : Fin (K * N) → EReal) (n : Fin N) :
    ∑ k ∈ Finset.univ.filter (fun k : Fin (K * N) => k.val % N = n.val), f k = ∑ q : Fin K, f (finProdFinEquiv (q, n)) := by
  have hN : 0 < N := lt_of_le_of_lt (Nat.zero_le _) n.isLt
  symm
  refine Finset.sum_bij (fun q _ => finProdFinEquiv (q, n)) ?_ ?_ ?_ (fun _ _ => rfl)
  · intro q _
    rw [Finset.mem_filter]
    refine ⟨Finset.mem_univ _, ?_⟩
    show (n.val + N * q.val) % N = n.val
    rw [Nat.add_mul_mod_self_left, Nat.mod_eq_of_lt n.isLt]
  · intro q _ q' _ h
    exact (Prod.mk.injEq _ _ _ _ ▸ finProdFinEquiv.injective h).1
  · intro k hk
    have hk' : k.val % N = n.val := (Finset.mem_filter.mp hk).2
    refine ⟨(finProdFinEquiv.symm k).1, Finset.mem_univ _, ?_⟩
    have : (finProdFinEquiv.symm k).2 = n := Fin.ext hk'
    rw [← this]
    exact finProdFinEquiv.apply_symm_apply k

end Cert.Cross
-- ==== Proof.KernelShape.lean ====
/- What one grid point leaves in its two output blocks, written with one definition per kind of tile: the 64 pooled tiles
   of 64 rows, the normalised rows, and the 64 tiles of 128 rows that are each stored twice. -/
module

public import proofs.«01_k».proof.Proof.Gen.KernelIdeal.Frame
public import Idealize.ShloMosaic.Lib.Pipeline.Value

@[expose] public section

set_option maxRecDepth 16384

noncomputable section

namespace Cert.Cross

open Cert.KernelIdeal Cert.KernelIdeal.Gen Idealize.ShloMosaic

variable {F : FTy → Type} [FloatOps F]

/-- The `k`-th run of 128 rows of a block of 16384 rows. -/
abbrev rowRun (k : Fin 128) : Rect S16384x128 :=
  Rect.unit (s := S16384x128) ![128 * k.val, 0] S128x128.size (by
    have := k.isLt
    intro a
    match a with
    | ⟨0, _⟩ => show 128 * k.val + 128 ≤ 16384; omega
    | ⟨1, _⟩ => show 0 + 128 ≤ 128; omega)

/-- The `k`-th run of a block. -/
def run (x : Vec F S16384x128 .f32) (k : Fin 128) : Vec F S128x128 .f32 := View.ld x (rowRun k)

/-- Pooled tile `r`: the selector times the sum of the row runs `2r` and `2r + 1`. -/
def poolTile (sel : FVec F S64x128 .f32) (x : Vec F S16384x128 .f32) (r : Fin 64) : FVec F S64x128 .f32 :=
  matmul dot_S64x128_S128x128_S64x128_1_0_0_1_n_n none sel
    (addf (shapeCast S128x128 (run x ⟨2 * r.val, by omega⟩) shapeCasts_S128x128_S128x128)
      (shapeCast S128x128 (run x ⟨2 * r.val + 1, by omega⟩) shapeCasts_S128x128_S128x128))
    (constant S64x128 .f32 0x00000000#32)

/-- Sixty-four tiles of 64 rows make 4096 rows. -/
theorem tiles_concat (f : Fin 64 → Vec F S64x128 .f32) :
    Shape.Concatenates ((List.ofFn fun r : Fin 64 => (⟨S64x128, f r⟩ : (s : Shape) × (s.Idx → F .f32))).map (·.1)) S4096x128 0 := by
  rw [List.map_ofFn]
  show Shape.Concatenates (List.ofFn fun _ : Fin 64 => S64x128) S4096x128 0
  decide

/-- The 64 pooled tiles, one under the other. -/
def pooled (sel : FVec F S64x128 .f32) (x : Vec F S16384x128 .f32) : FVec F S4096x128 .f32 :=
  concatenate S4096x128 0 (List.ofFn fun r : Fin 64 => ⟨S64x128, poolTile sel x r⟩) (tiles_concat _)

/-- The column of the means of the rows. -/
def meanCol (v : FVec F S4096x128 .f32) : FVec F S4096x1 .f32 :=
  divf (shapeCast S4096x1 (multiReduction .add [1] S4096 v 0x00000000#32 reduces_S4096x128_S4096 (.inl rfl) rfl) shapeCasts_S4096_S4096x1)
    (broadcast S4096x1 (Scalar.ofBits .f32 0x43000000#32))

/-- Every row less its mean. -/
def centred (v : FVec F S4096x128 .f32) : FVec F S4096x128 .f32 := subf v (broadcastTo S4096x128 (meanCol v) broadcasts_S4096x1_S4096x128)

/-- The column of the reciprocal roots of the rows' variances, each with the small number added. -/
def rootCol (v : FVec F S4096x128 .f32) : FVec F S4096x1 .f32 :=
  rsqrt (addf (meanCol (mulf (centred v) (centred v))) (broadcast S4096x1 (Scalar.ofBits .f32 0x3727C5AC#32)))

/-- The last steps of both updates: every row of `v` normalised, scaled by `g`, shifted by `b`, clamped at zero. -/
def lnTail (v : FVec F S4096x128 .f32) (g b : FVec F S1x128 .f32) : FVec F S4096x128 .f32 :=
  maximumf (addf (mulf (mulf (centred v) (broadcastTo S4096x128 (rootCol v) broadcasts_S4096x1_S4096x128))
      (broadcastTo S4096x128 g broadcasts_S1x128_S4096x128)) (broadcastTo S4096x128 b broadcasts_S1x128_S4096x128))
    (broadcast S4096x128 (Scalar.ofBits .f32 0x00000000#32))

/-- The pooled rows scaled by the column `c`, times the weights, normalised. -/
def downBlock (x : Vec F S16384x128 .f32) (c : FVec F S4096x1 .f32) (sel : FVec F S64x128 .f32) (w : FVec F S128x128 .f32) (g b : FVec F S1x128 .f32) : FVec F S4096x128 .f32 :=
  lnTail (matmul dot_S4096x128_S128x128_S4096x128_1_0_0_1_n_n none
    (mulf (pooled sel x) (broadcastTo S4096x128 c broadcasts_S4096x1_S4096x128)) w (constant S4096x128 .f32 0x00000000#32)) g b

/-- The rows of the fine update before they are repeated: the weights applied, scaled by `c`, normalised. -/
def upRows (y : FVec F S4096x128 .f32) (c : FVec F S4096x1 .f32) (w : FVec F S128x128 .f32) (g b : FVec F S1x128 .f32) : FVec F S4096x128 .f32 :=
  lnTail (mulf (broadcastTo S4096x128 c broadcasts_S4096x1_S4096x128)
    (matmul dot_S4096x128_S128x128_S4096x128_1_0_0_1_n_n none y w (constant S4096x128 .f32 0x00000000#32))) g b

theorem slice_rows (r : Fin 64) : Shape.Slices S4096x128 ![64 * r.val, 0] S64x128 := by
  refine ⟨rfl, fun a => ?_⟩
  have := r.isLt
  match a with
  | ⟨0, _⟩ => show 64 * r.val + 64 ≤ 4096; omega
  | ⟨1, _⟩ => show 0 + 128 ≤ 128; omega

/-- Repeated tile `r`: the repeater times rows `64 r … 64 r + 63`. -/
def upTile (rep : FVec F S128x64 .f32) (u : FVec F S4096x128 .f32) (r : Fin 64) : FVec F S128x128 .f32 :=
  matmul dot_S128x64_S64x128_S128x128_1_0_0_1_n_n none rep (extractStridedSlice S64x128 ![64 * r.val, 0] u (slice_rows r)) (constant S128x128 .f32 0x00000000#32)

/-- The stores of the second output block, the last store first: store `k` is repeated tile `k / 2` at run `k`. -/
def upPieces (rep : FVec F S128x64 .f32) (u : FVec F S4096x128 .f32) : List (View.Piece (Elt F) S16384x128 .f32) :=
  List.ofFn fun k : Fin 128 => ⟨rowRun k.rev, upTile rep u ⟨k.rev.val / 2, by omega⟩⟩

/-- A whole buffer loaded and reshaped to its own shape is the buffer. -/
theorem reload {S : Shape} {e : EltTy} {off : Fin S.rank → ℕ} (h : off = fun _ => 0) (inb : ∀ a, off a + S.size a ≤ S.size a) (X : S.Idx → Elt F e)
    (hc : S.ShapeCasts S) : shapeCast S (View.ld X (Rect.unit off S.size inb)) hc = X :=
  (congrArg (fun Y : S.Idx → Elt F e => shapeCast S Y hc) (View.ld_unit_zero h inb X)).trans (shapeCast_self X hc)

theorem zeros : (![0, 0] : Fin 2 → ℕ) = fun _ => 0 := funext fun a => match a with
  | ⟨0, _⟩ => rfl
  | ⟨1, _⟩ => rfl

variable (x0 : Vec F S16384x128 .f32) (x1 : Vec F S4096x128 .f32) (x2 : Vec F S4096x1 .f32) (x3 : Vec F S64x128 .f32) (x4 : Vec F S128x64 .f32)
  (x5 x6 : Vec F S128x128 .f32) (x7 x8 x9 x10 : Vec F S1x128 .f32)

/-- The first output block is `downBlock` of the inputs. -/
theorem out0_11_eq : out0_11 x0 x1 x2 x3 x4 x5 x6 x7 x8 x9 x10 = downBlock x0 x2 x3 x5 x7 x8 := by
  have h : out0_11 x0 x1 x2 x3 x4 x5 x6 x7 x8 x9 x10 = View.canon [⟨r0_133, downBlock x0
      (shapeCast S4096x1 (View.ld x2 r0_0) shapeCasts_S4096x1_S4096x1) (shapeCast S64x128 (View.ld x3 r0_1) shapeCasts_S64x128_S64x128)
      (shapeCast S128x128 (View.ld x5 r0_132) shapeCasts_S128x128_S128x128)
      (shapeCast S1x128 (View.ld x7 r0_3) shapeCasts_S1x128_S1x128) (shapeCast S1x128 (View.ld x8 r0_3) shapeCasts_S1x128_S1x128)⟩] := by
    rfl
  rw [h, View.canon_unit_zero zeros, reload (S := S4096x1) zeros, reload (S := S64x128) zeros, reload (S := S128x128) zeros,
    reload (S := S1x128) zeros, reload (S := S1x128) zeros]

/-- The second output block is what its 128 stores leave. -/
theorem out0_12_eq : out0_12 x0 x1 x2 x3 x4 x5 x6 x7 x8 x9 x10 = View.canon (upPieces x4 (upRows x1 x2 x6 x9 x10)) := by
  have h : out0_12 x0 x1 x2 x3 x4 x5 x6 x7 x8 x9 x10 = View.canon (upPieces (shapeCast S128x64 (View.ld x4 r0_2) shapeCasts_S128x64_S128x64)
      (upRows (shapeCast S4096x128 (View.ld x1 r0_133) shapeCasts_S4096x128_S4096x128)
        (shapeCast S4096x1 (View.ld x2 r0_0) shapeCasts_S4096x1_S4096x1) (shapeCast S128x128 (View.ld x6 r0_132) shapeCasts_S128x128_S128x128)
        (shapeCast S1x128 (View.ld x9 r0_3) shapeCasts_S1x128_S1x128) (shapeCast S1x128 (View.ld x10 r0_3) shapeCasts_S1x128_S1x128))) := by
    rfl
  rw [h, reload (S := S128x64) zeros, reload (S := S4096x128) zeros, reload (S := S4096x1) zeros, reload (S := S128x128) zeros,
    reload (S := S1x128) zeros, reload (S := S1x128) zeros]

end Cert.Cross
-- ==== Proof.KernelBlock.lean ====
/- The two output blocks of one grid point, read at a row and a lane. -/
module

public import proofs.«01_k».proof.Proof.Algebra
public import proofs.«01_k».proof.Proof.KernelShape
public import Idealize.ShloMosaic.Lib.ValueIdx
public import Idealize.ShloMosaic.Lib.MatmulPlain

@[expose] public section

set_option maxRecDepth 16384

noncomputable section

namespace Cert.Cross

open Cert.KernelIdeal Cert.KernelIdeal.Gen Idealize.ShloMosaic Idealize.ShloMosaic.ValueIdx

/-! ## The normalised rows -/

/-- A row's mean as the block computes it, column of means. -/
theorem meanCol_apply (v : FVec Ideal S4096x128 .f32) (n : Fin 4096) (z : Fin 1) :
    meanCol v (ix2 n z) = mean fun j => v (ix2 n j) := by
  unfold meanCol
  rw [divf_apply, shapeCast_apply _ shapeCasts_S4096_S4096x1 (ix2 n z) (ix1 n)
    (by rw [Shape.rowMajor_val_one, Shape.rowMajor_val_two]; show n.val = n.val * 1 + z.val; omega)]
  refine congrArg (Ideal.div · len) ((Ideal.multiReduction_add_single v _ _ _ _ (ix1 n)).trans ?_)
  refine Finset.sum_congr rfl fun k _ => congrArg v (funext fun a => Fin.ext ?_)
  match a with
  | ⟨0, _⟩ => rfl
  | ⟨1, _⟩ => rfl

/-- A column read along a row: its only entry there. -/
theorem col_apply (s : FVec Ideal S4096x1 .f32) (n : Fin 4096) (j : Fin 128) :
    broadcastTo S4096x128 s broadcasts_S4096x1_S4096x128 (ix2 n j) = s (ix2 n 0) :=
  broadcastTo_apply s _ _ _ fun a => match a with
    | ⟨0, _⟩ => rfl
    | ⟨1, _⟩ => rfl

/-- A row read along a column: its only entry there. -/
theorem row_apply (s : FVec Ideal S1x128 .f32) (n : Fin 4096) (j : Fin 128) :
    broadcastTo S4096x128 s broadcasts_S1x128_S4096x128 (ix2 n j) = s (ix2 0 j) :=
  broadcastTo_apply s _ _ _ fun a => match a with
    | ⟨0, _⟩ => rfl
    | ⟨1, _⟩ => rfl

theorem centred_apply (v : FVec Ideal S4096x128 .f32) (n : Fin 4096) (j : Fin 128) :
    centred v (ix2 n j) = v (ix2 n j) - mean fun j => v (ix2 n j) := by
  unfold centred
  rw [subf_apply, col_apply, meanCol_apply]

theorem rootCol_apply (v : FVec Ideal S4096x128 .f32) (n : Fin 4096) :
    rootCol v (ix2 n 0) = Ideal.rsqrt (var (fun j => v (ix2 n j)) + eps) := by
  show Ideal.rsqrt (meanCol (mulf (centred v) (centred v)) (ix2 n 0) + eps) = _
  rw [meanCol_apply]
  simp only [mulf_apply, centred_apply]
  rfl

theorem lnTail_apply (v : FVec Ideal S4096x128 .f32) (g b : FVec Ideal S1x128 .f32) (n : Fin 4096) (j : Fin 128) :
    lnTail v g b (ix2 n j) = lnMul (fun j => g (ix2 0 j)) (fun j => b (ix2 0 j)) (fun j => v (ix2 n j)) j := by
  have hz : broadcast S4096x128 (Scalar.ofBits (F := Ideal) .f32 0x00000000#32) (ix2 n j) = (0 : EReal) := Ideal.ofBits_zero_f32
  unfold lnTail lnMul
  rw [maximumf_apply, addf_apply, mulf_apply, mulf_apply, col_apply, row_apply, row_apply, centred_apply, rootCol_apply, hz]

/-! ## The pooled rows -/

theorem run_apply (x : Vec Ideal S16384x128 .f32) (k : Fin 128) (i : Fin 128) (l : Fin 128) :
    run x k (ix2 i l) = x (ix2 ⟨128 * k.val + i.val, by omega⟩ l) := by
  unfold run
  rw [View.ld_unit]
  exact extractStridedSlice_apply _ x _ _ _ fun a => match a with
    | ⟨0, _⟩ => rfl
    | ⟨1, _⟩ => (Nat.zero_add _).symm

theorem poolTile_apply (sel : FVec Ideal S64x128 .f32) (x : Vec Ideal S16384x128 .f32) (r i : Fin 64) (l : Fin 128) :
    poolTile sel x r (ix2 i l) = ∑ k : Fin 128, sel (ix2 i k) *
      (x (ix2 ⟨256 * r.val + k.val, by omega⟩ l) + x (ix2 ⟨256 * r.val + 128 + k.val, by omega⟩ l)) := by
  unfold poolTile
  rw [shapeCast_self, shapeCast_self]
  refine (Ideal.matmul_plain_apply (M := 64) (K := 128) (N := 128) none sel _ _ i l).trans ?_
  rw [constant_apply, Ideal.ofBits_zero_f32, zero_add]
  refine Finset.sum_congr rfl fun k _ => ?_
  rw [addf_apply, run_apply, run_apply]
  rw [show (⟨128 * (2 * r.val) + k.val, by omega⟩ : Fin 16384) = ⟨256 * r.val + k.val, by omega⟩ from Fin.ext (by show 128 * (2 * r.val) + k.val = 256 * r.val + k.val; omega),
    show (⟨128 * (2 * r.val + 1) + k.val, by omega⟩ : Fin 16384) = ⟨256 * r.val + 128 + k.val, by omega⟩ from Fin.ext (by show 128 * (2 * r.val + 1) + k.val = 256 * r.val + 128 + k.val; omega)]

theorem pooled_apply (sel : FVec Ideal S64x128 .f32) (x : Vec Ideal S16384x128 .f32) (n : Fin 4096) (l : Fin 128) :
    pooled sel x (ix2 n l) = poolTile sel x ⟨n.val / 64, by omega⟩ (ix2 ⟨n.val % 64, by omega⟩ l) := by
  unfold pooled
  exact concatenate_ofFn_apply (t := S4096x128) (s₁ := S64x128) (0 : Fin 2) (fun r => poolTile sel x r) (tiles_concat _) rfl 64 rfl (ix2 n l) ⟨n.val / 64, by omega⟩ rfl
    (ix2 ⟨n.val % 64, by omega⟩ l) rfl (fun b hb => match b with
      | ⟨0, _⟩ => absurd rfl hb
      | ⟨1, _⟩ => rfl)

/-- The selector: row `i` takes the lanes `2 i` and `2 i + 1`. -/
def IsSel (sel : Vec Ideal S64x128 .f32) : Prop := ∀ (i : Fin 64) (k : Fin 128), sel (ix2 i k) = if k.val / 2 = i.val then 1 else 0

/-- The repeater: row `m` takes the lane `m / 2`. -/
def IsRep (rep : Vec Ideal S128x64 .f32) : Prop := ∀ (m : Fin 128) (i : Fin 64), rep (ix2 m i) = if m.val / 2 = i.val then 1 else 0

/-- Four neighbours of the fine grid, summed as the block sums them: coarse row `n` is row `n / 64`, column `n % 64`. -/
def quad (x : Fin 16384 → EReal) (n : Fin 4096) : EReal :=
  (x ⟨256 * (n.val / 64) + 2 * (n.val % 64), by omega⟩ + x ⟨256 * (n.val / 64) + 128 + 2 * (n.val % 64), by omega⟩)
    + (x ⟨256 * (n.val / 64) + (2 * (n.val % 64) + 1), by omega⟩ + x ⟨256 * (n.val / 64) + 128 + (2 * (n.val % 64) + 1), by omega⟩)

theorem pooled_eq_quad {sel : Vec Ideal S64x128 .f32} (hs : IsSel sel) (x : Vec Ideal S16384x128 .f32) (n : Fin 4096) (l : Fin 128) :
    pooled sel x (ix2 n l) = quad (fun p => x (ix2 p l)) n := by
  rw [pooled_apply, poolTile_apply]
  simp only [hs _ _]
  rw [sum_twohot (fun k : Fin 128 => k.val / 2 = n.val % 64) _ ⟨2 * (n.val % 64), by omega⟩ ⟨2 * (n.val % 64) + 1, by omega⟩
    (fun h => by have := congrArg Fin.val h; simp at this)
    (fun k => by
      rw [Fin.ext_iff, Fin.ext_iff]
      show k.val / 2 = n.val % 64 ↔ k.val = 2 * (n.val % 64) ∨ k.val = 2 * (n.val % 64) + 1
      omega)]
  rfl

/-! ## The two output blocks -/

theorem downBlock_apply {x : Vec Ideal S16384x128 .f32} {c : Vec Ideal S4096x1 .f32} {sel : Vec Ideal S64x128 .f32} (hs : IsSel sel)
    (w : Vec Ideal S128x128 .f32) (g b : Vec Ideal S1x128 .f32) (n : Fin 4096) (j : Fin 128) :
    downBlock x c sel w g b (ix2 n j) = lnMul (fun j => g (ix2 0 j)) (fun j => b (ix2 0 j))
      (fun o => ∑ k : Fin 128, quad (fun p => x (ix2 p k)) n * c (ix2 n 0) * w (ix2 k o)) j := by
  unfold downBlock
  rw [lnTail_apply]
  congr 1
  funext o
  refine (Ideal.matmul_plain_apply (M := 4096) (K := 128) (N := 128) none _ w _ n o).trans ?_
  rw [constant_apply, Ideal.ofBits_zero_f32, zero_add]
  refine Finset.sum_congr rfl fun k _ => ?_
  rw [mulf_apply, pooled_eq_quad hs, col_apply]

theorem upRows_apply (y : Vec Ideal S4096x128 .f32) (c : Vec Ideal S4096x1 .f32) (w : Vec Ideal S128x128 .f32) (g b : Vec Ideal S1x128 .f32) (n : Fin 4096) (j : Fin 128) :
    upRows (F := Ideal) y c w g b (ix2 n j) = lnMul (fun j => g (ix2 0 j)) (fun j => b (ix2 0 j))
      (fun o => c (ix2 n 0) * ∑ k : Fin 128, y (ix2 n k) * w (ix2 k o)) j := by
  unfold upRows
  rw [lnTail_apply]
  congr 1
  funext o
  rw [mulf_apply, col_apply]
  congr 1
  refine (Ideal.matmul_plain_apply (M := 4096) (K := 128) (N := 128) none y w _ n o).trans ?_
  rw [constant_apply, Ideal.ofBits_zero_f32, zero_add]

theorem upTile_apply {rep : Vec Ideal S128x64 .f32} (hr : IsRep rep) (u : FVec Ideal S4096x128 .f32) (r : Fin 64) (m l : Fin 128) :
    upTile rep u r (ix2 m l) = u (ix2 ⟨64 * r.val + m.val / 2, by omega⟩ l) := by
  unfold upTile
  refine (Ideal.matmul_plain_apply (M := 128) (K := 64) (N := 128) none rep _ _ m l).trans ?_
  rw [constant_apply, Ideal.ofBits_zero_f32, zero_add]
  simp only [hr _ _]
  rw [sum_onehot (fun i : Fin 64 => m.val / 2 = i.val) _ ⟨m.val / 2, by omega⟩ (fun i => by rw [Fin.ext_iff]; exact eq_comm)]
  exact extractStridedSlice_apply _ u _ _ _ fun a => match a with
    | ⟨0, _⟩ => rfl
    | ⟨1, _⟩ => (Nat.zero_add _).symm

/-- The coarse row under fine row `p`. -/
def under (p : Fin 16384) : Fin 4096 := ⟨64 * (p.val / 256) + p.val % 128 / 2, by omega⟩

/-- The first output block: coarse row `n`, lane `j`. -/
theorem out0_11_apply {x0 : Vec Ideal S16384x128 .f32} {x1 : Vec Ideal S4096x128 .f32} {x2 : Vec Ideal S4096x1 .f32} {x3 : Vec Ideal S64x128 .f32} {x4 : Vec Ideal S128x64 .f32} {x5 x6 : Vec Ideal S128x128 .f32} {x7 x8 x9 x10 : Vec Ideal S1x128 .f32}
    (hs : IsSel x3) (n : Fin 4096) (j : Fin 128) :
    out0_11 x0 x1 x2 x3 x4 x5 x6 x7 x8 x9 x10 (ix2 n j) = lnMul (fun j => x7 (ix2 0 j)) (fun j => x8 (ix2 0 j))
      (fun o => ∑ k : Fin 128, quad (fun p => x0 (ix2 p k)) n * x2 (ix2 n 0) * x5 (ix2 k o)) j := by
  rw [out0_11_eq]
  exact downBlock_apply hs x5 x7 x8 n j

/-- The second output block: fine row `p`, lane `j`, is the coarse row under it. -/
theorem out0_12_apply {x0 : Vec Ideal S16384x128 .f32} {x1 : Vec Ideal S4096x128 .f32} {x2 : Vec Ideal S4096x1 .f32} {x3 : Vec Ideal S64x128 .f32} {x4 : Vec Ideal S128x64 .f32} {x5 x6 : Vec Ideal S128x128 .f32} {x7 x8 x9 x10 : Vec Ideal S1x128 .f32}
    (hr : IsRep x4) (p : Fin 16384) (j : Fin 128) :
    out0_12 x0 x1 x2 x3 x4 x5 x6 x7 x8 x9 x10 (ix2 p j) = lnMul (fun j => x9 (ix2 0 j)) (fun j => x10 (ix2 0 j))
      (fun o => x2 (ix2 (under p) 0) * ∑ k : Fin 128, x1 (ix2 (under p) k) * x6 (ix2 k o)) j := by
  rw [out0_12_eq]
  rw [View.canon_apply_of_pieces (fun y : S16384x128.Idx => upRows (F := Ideal) x1 x2 x6 x9 x10 (ix2 (under (y 0)) (y 1)))]
  · exact upRows_apply x1 x2 x6 x9 x10 (under p) j
  · intro q hq x
    obtain ⟨k, rfl⟩ := List.mem_ofFn.mp hq
    obtain ⟨m, l, rfl⟩ : ∃ m l, x = ix2 m l := ⟨_, _, eq_ix2 x⟩
    refine (upTile_apply hr _ _ m l).trans (congrArg (upRows (F := Ideal) x1 x2 x6 x9 x10) (funext fun a => Fin.ext ?_))
    have hk : (128 * k.rev.val + m.val) / 256 = k.rev.val / 2 ∧ (128 * k.rev.val + m.val) % 128 / 2 = m.val / 2 := by omega
    match a with
    | ⟨0, _⟩ =>
      show 64 * (k.rev.val / 2) + m.val / 2 = 64 * ((128 * k.rev.val + 1 * m.val) / 256) + (128 * k.rev.val + 1 * m.val) % 128 / 2
      rw [Nat.one_mul, hk.1, hk.2]
    | ⟨1, _⟩ => show l.val = 0 + 1 * l.val; omega
  · refine ⟨_, List.mem_ofFn.mpr ⟨(⟨p.val / 128, by omega⟩ : Fin 128).rev, rfl⟩, ?_⟩
    show ix2 p j ∈ (rowRun (⟨p.val / 128, by omega⟩ : Fin 128).rev.rev).set
    rw [Fin.rev_rev]
    refine Rect.mem_set_unit.mpr fun a => ?_
    match a with
    | ⟨0, _⟩ => show 128 * (p.val / 128) ≤ p.val ∧ p.val < 128 * (p.val / 128) + 128; omega
    | ⟨1, _⟩ => show 0 ≤ j.val ∧ j.val < 0 + 128; omega

end Cert.Cross
-- ==== Proof.KernelHost.lean ====
/- The arrays the region is entered with: each window's array as the host operations before the region leave it, as a
   function of the arguments. -/
module

public import proofs.«01_k».proof.Proof.KernelBlock
public import proofs.«01_k».proof.Proof.Gen.KernelIdeal.Frame
public import Idealize.ShloMosaic.Lib.StableHlo.Run

@[expose] public section

noncomputable section

namespace Cert.Cross

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-- The lane number halved, as the host's rounding division spells it. -/
def halves : IVec S64x128 32 :=
  let n := iotaInDim S64x128 32 1
  let two := broadcastInDim S64x128 ![] bcast_S_S64x128 (constantI S_ 32 2#32)
  let q := Host.divsi n two
  select
    (andi (cmpi .ne (signi n) (broadcastInDim S64x128 ![] bcast_S_S64x128 (signi (constantI S_ 32 2#32))))
      (cmpi .ne (Host.remsi n two) (broadcastInDim S64x128 ![] bcast_S_S64x128 (constantI S_ 32 0#32))))
    (subi q (broadcastInDim S64x128 ![] bcast_S_S64x128 (constantI S_ 32 1#32))) q

/-- The one-hot array: one where the halved lane number is the row number. -/
def onehot : FVec Ideal S64x128 .f32 := uitofp .f32 (cmpi .eq halves (iotaInDim S64x128 32 0))

/-! ## The arrays -/

/-- Reading a reference after the stretches of host operations is reading it after their concatenation. -/
theorem V_concat (b : Ref sig .tc) :
    V m c b = StableHlo.after (hostOps0 ++ (hostOps0_1 ++ (hostOps0_2 ++ []))) (fun b => m (c, b)) (Proc.devRef .tc b) := rfl

/-- What the host operations leave in each window's array. -/
structure HostArrays : Prop where
  fine : V m c main_v0
    = shapeCast S131072x128 (m ((c : Thread nD τ).loc main_arg0)) shapeCasts_S8x16384x128_S131072x128
  coarse : V m c main_v1
    = shapeCast S32768x128 (m ((c : Thread nD τ).loc main_arg1)) shapeCasts_S8x4096x128_S32768x128
  scale : V m c main_v3
    = shapeCast S4096x1 (extractStridedSlice S4096 ![0] (m ((c : Thread nD τ).loc main_arg10)) slices_S16384_S4096_0) shapeCasts_S4096_S4096x1
  sel : V m c main_v8
    = onehot
  rep : V m c main_v9
    = transpose S128x64 [1, 0] onehot transposes_S64x128_S128x64_1_0
  wDown : V m c main_v10
    = transpose S128x128 [1, 0] (m ((c : Thread nD τ).loc main_arg2)) transposes_S128x128_S128x128_1_0
  wUp : V m c main_v11
    = transpose S128x128 [1, 0] (m ((c : Thread nD τ).loc main_arg3)) transposes_S128x128_S128x128_1_0
  gDown : V m c main_v12
    = shapeCast S1x128 (m ((c : Thread nD τ).loc main_arg4)) shapeCasts_S128_S1x128
  bDown : V m c main_v13
    = shapeCast S1x128 (m ((c : Thread nD τ).loc main_arg5)) shapeCasts_S128_S1x128
  gUp : V m c main_v14
    = shapeCast S1x128 (m ((c : Thread nD τ).loc main_arg6)) shapeCasts_S128_S1x128
  bUp : V m c main_v15
    = shapeCast S1x128 (m ((c : Thread nD τ).loc main_arg7)) shapeCasts_S128_S1x128

/-- Read off the host operations, one after the other. -/
theorem hostArrays : HostArrays m c := by
  constructor <;>
  · rw [V_concat]
    simp only [hostOps0, hostOps0_1, hostOps0_2, List.cons_append, List.nil_append]
    after_results <;> rfl

/-! ## The arrays at an index -/

/-- The fine rows, batch after batch. -/
theorem fine_at (a : Fin 8) (p : Fin 16384) (k : Fin 128) (r : Fin 131072) (hr : r.val = 16384 * a.val + p.val) :
    (V m c main_v0 : FVec Ideal S131072x128 .f32) (ix2 r k) = m ((c : Thread nD τ).loc main_arg0) (ix3 a p k) := by
  rw [(hostArrays m c).fine]
  refine shapeCast_apply _ _ _ _ ?_
  rw [Shape.rowMajor_val_two]
  refine (Shape.rowMajor_val_three (d := ![8, 16384, 128]) _).trans ?_
  show (a.val * 16384 + p.val) * 128 + k.val = r.val * 128 + k.val
  omega

/-- The coarse rows, batch after batch. -/
theorem coarse_at (a : Fin 8) (n : Fin 4096) (k : Fin 128) (r : Fin 32768) (hr : r.val = 4096 * a.val + n.val) :
    (V m c main_v1 : FVec Ideal S32768x128 .f32) (ix2 r k) = m ((c : Thread nD τ).loc main_arg1) (ix3 a n k) := by
  rw [(hostArrays m c).coarse]
  refine shapeCast_apply _ _ _ _ ?_
  rw [Shape.rowMajor_val_two]
  refine (Shape.rowMajor_val_three (d := ![8, 4096, 128]) _).trans ?_
  show (a.val * 4096 + n.val) * 128 + k.val = r.val * 128 + k.val
  omega

/-- The leading values, one per coarse row. -/
theorem scale_at (n : Fin 4096) (z : Fin 1) :
    (V m c main_v3 : FVec Ideal S4096x1 .f32) (ix2 n z)
      = m ((c : Thread nD τ).loc main_arg10) (ix1 ⟨n.val, by omega⟩) := by
  rw [(hostArrays m c).scale]
  refine (shapeCast_apply _ _ _ (ix1 n) ?_).trans ?_
  · rw [Shape.rowMajor_val_one, Shape.rowMajor_val_two]
    show n.val = n.val * 1 + z.val
    omega
  · refine extractStridedSlice_apply _ _ _ _ _ ?_
    intro d
    fin_cases d
    show n.val = 0 + n.val
    omega

/-- A transposed square weight. -/
theorem square_at (w : FVec Ideal S128x128 .f32) (k o : Fin 128) :
    transpose S128x128 [1, 0] w transposes_S128x128_S128x128_1_0 (ix2 k o) = w (ix2 o k) :=
  transpose_apply _ _ _ _ _ (by intro d; fin_cases d <;> rfl)

/-- A vector laid as one row. -/
theorem line_at (v : FVec Ideal S128 .f32) (z : Fin 1) (j : Fin 128) :
    shapeCast S1x128 v shapeCasts_S128_S1x128 (ix2 z j) = v (ix1 j) := by
  refine shapeCast_apply _ _ _ _ ?_
  rw [Shape.rowMajor_val_one, Shape.rowMajor_val_two]
  show j.val = z.val * 128 + j.val
  omega

/-! ## The one-hot arrays -/

/-- The rounding division by two of one word. -/
def halfWord (n : BitVec 32) : BitVec 32 :=
  let sign (x : BitVec 32) : BitVec 32 := if x = 0 then 0 else if x.msb then -1 else 1
  Scalar.select
    (IntOp.andi (IntOp.cmpi .ne (sign n) (sign 2#32)) (IntOp.cmpi .ne (IntOp.remsi .host n 2#32) 0#32))
    (IntOp.subi (IntOp.divsi .host n 2#32) 1#32) (IntOp.divsi .host n 2#32)

/-- On the lane numbers it is the half, rounded down. -/
theorem halfWord_lane : ∀ k : Fin 128, halfWord (BitVec.ofNat 32 k.val) = BitVec.ofNat 32 (k.val / 2) := by
  decide +kernel

/-- The halved lane number. -/
theorem halves_apply (i : Fin 64) (k : Fin 128) : halves (ix2 i k) = BitVec.ofNat 32 (k.val / 2) :=
  (show halves (ix2 i k) = halfWord (BitVec.ofNat 32 k.val) from rfl).trans (halfWord_lane k)

/-- The selection array sums neighbouring lanes. -/
theorem onehot_isSel : IsSel onehot := by
  intro i k
  have h : onehot (ix2 i k)
      = (((IntOp.cmpi .eq (halves (ix2 i k)) (BitVec.ofNat 32 i.val)).toNat : ℝ) : EReal) := rfl
  rw [h, halves_apply]
  have e : (BitVec.ofNat 32 (k.val / 2) == BitVec.ofNat 32 i.val) = decide (k.val / 2 = i.val) := by
    rw [Bool.eq_iff_iff, beq_iff_eq, decide_eq_true_iff, ← BitVec.toNat_inj, BitVec.toNat_ofNat, BitVec.toNat_ofNat]
    omega
  show (((BitVec.ofBool (BitVec.ofNat 32 (k.val / 2) == BitVec.ofNat 32 i.val)).toNat : ℝ) : EReal) = _
  rw [e]
  by_cases hk : k.val / 2 = i.val <;> simp [hk]

/-- Its transpose repeats every lane twice. -/
theorem onehot_isRep : IsRep (transpose S128x64 [1, 0] onehot transposes_S64x128_S128x64_1_0) := by
  intro k i
  rw [transpose_apply [1, 0] onehot _ (ix2 k i) (ix2 i k) (by intro d; fin_cases d <;> rfl)]
  exact onehot_isSel i k

end Cert.Cross
-- ==== Proof.KernelBlocks.lean ====
/- The blocks of each window at a grid point, as the arguments hold them. -/
module

public import proofs.«01_k».proof.Proof.KernelHost
public import Idealize.ShloMosaic.Lib.Pipeline.ValueKit.Geometry

@[expose] public section

set_option maxRecDepth 16384

noncomputable section

namespace Cert.Cross

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-! ## The blocks -/

/-- The batch a grid point works on. -/
def batch (t : Fin cfg0.N) : Fin 8 := ⟨t.val, t.isLt⟩

/-- The windows that move: one block of rows per grid point. -/
theorem along0 : ∀ t : Fin cfg0.N, win0_0.index t = ![t.val, 0] := (by decide +kernel : ∀ t : Fin grid0.N, _)
theorem along1 : ∀ t : Fin cfg0.N, win0_1.index t = ![t.val, 0] := (by decide +kernel : ∀ t : Fin grid0.N, _)
theorem along11 : ∀ t : Fin cfg0.N, win0_11.index t = ![t.val, 0] := (by decide +kernel : ∀ t : Fin grid0.N, _)
theorem along12 : ∀ t : Fin cfg0.N, win0_12.index t = ![t.val, 0] := (by decide +kernel : ∀ t : Fin grid0.N, _)

/-- The fine rows of a grid point's batch. -/
theorem fine_block (t : Fin cfg0.N) (p : Fin 16384) (k : Fin 128) :
    (iblk m c 0 t : FVec Ideal S16384x128 .f32) (ix2 p k)
      = m ((c : Thread nD τ).loc main_arg0) (ix3 (batch t) p k) := by
  have ht : t.val < 8 := (batch t).isLt
  blk_simp [iblk]
  have e : ((win0_0.blk t).view.emb (ix2 p k) : S131072x128.Idx) = ix2 ⟨16384 * t.val + p.val, by omega⟩ k := by
    blk_ext [along0]
    show t.val * 16384 + p.val = _
    omega
  exact (congrArg _ e).trans (fine_at m c (batch t) p k _ rfl)

/-- The coarse rows of a grid point's batch. -/
theorem coarse_block (t : Fin cfg0.N) (n : Fin 4096) (k : Fin 128) :
    (iblk m c 1 t : FVec Ideal S4096x128 .f32) (ix2 n k)
      = m ((c : Thread nD τ).loc main_arg1) (ix3 (batch t) n k) := by
  have ht : t.val < 8 := (batch t).isLt
  blk_simp [iblk]
  have e : ((win0_1.blk t).view.emb (ix2 n k) : S32768x128.Idx) = ix2 ⟨4096 * t.val + n.val, by omega⟩ k := by
    blk_ext [along1]
    show t.val * 4096 + n.val = _
    omega
  exact (congrArg _ e).trans (coarse_at m c (batch t) n k _ rfl)

/-- The windows that stay: at every grid point the block is the whole array. -/
structure Resident (t : Fin cfg0.N) : Prop where
  scale : iblk m c 2 t = V m c main_v3
  sel : iblk m c 3 t = V m c main_v8
  rep : iblk m c 4 t = V m c main_v9
  wDown : iblk m c 5 t = V m c main_v10
  wUp : iblk m c 6 t = V m c main_v11
  gDown : iblk m c 7 t = V m c main_v12
  bDown : iblk m c 8 t = V m c main_v13
  gUp : iblk m c 9 t = V m c main_v14
  bUp : iblk m c 10 t = V m c main_v15

/-- Their block index is constant. -/
theorem still : ∀ t : Fin cfg0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

set_option maxHeartbeats 2000000 in
theorem resident (t : Fin cfg0.N) : Resident m c t := by
  constructor <;>
  · funext y
    blk_simp [iblk]
    refine congrArg _ ?_
    blk_ext [still]

end Cert.Cross
-- ==== Proof.KernelArrays.lean ====
/- The two arrays the region leaves, every block put in its place, and the two results the last host operations make of
   them. -/
module

public import proofs.«01_k».proof.Proof.KernelBlocks

@[expose] public section

set_option maxRecDepth 16384

noncomputable section

namespace Cert.Cross

open Idealize.ShloMosaic Idealize.ShloMosaic.ValueIdx Idealize.ShloMosaic.TcCoe
open Cert.KernelIdeal Cert.KernelIdeal.Gen

/-! ## What one row holds, as a function of the arguments -/

/-- A coarse row: four fine rows summed, scaled, taken through the weight and normalised. -/
def coarseRow (x : FVec Ideal S8x16384x128 .f32) (w : FVec Ideal S128x128 .f32) (g b : FVec Ideal S128 .f32)
    (vals : FVec Ideal S16384 .f32) (a : Fin 8) (n : Fin 4096) (j : Fin 128) : EReal :=
  lnMul (fun j => g (ix1 j)) (fun j => b (ix1 j))
    (fun o => ∑ k, quad (fun p => x (ix3 a p k)) n * vals (ix1 ⟨n.val, by omega⟩) * w (ix2 o k)) j

/-- A fine row: the coarse row it lies under taken through the weight, scaled and normalised. -/
def fineRow (y : FVec Ideal S8x4096x128 .f32) (w : FVec Ideal S128x128 .f32) (g b : FVec Ideal S128 .f32)
    (vals : FVec Ideal S16384 .f32) (a : Fin 8) (p : Fin 16384) (j : Fin 128) : EReal :=
  lnMul (fun j => g (ix1 j)) (fun j => b (ix1 j))
    (fun o => vals (ix1 ⟨(under p).val, by omega⟩) * ∑ k, y (ix3 a (under p) k) * w (ix2 o k)) j

/-- Normalising entrywise equal rows gives the same. -/
theorem lnMul_congr {g g' b b' y y' : Fin 128 → EReal} (hg : ∀ j, g j = g' j) (hb : ∀ j, b j = b' j)
    (hy : ∀ j, y j = y' j) (j : Fin 128) : lnMul g b y j = lnMul g' b' y' j := by
  rw [funext hg, funext hb, funext hy]

variable (m : (ℓ : Loc nD τ sig) → Buf (Elt Ideal) ℓ) (c : Dev nD)

/-- The coarse rows of the arguments at launch. -/
def coarseOf (a : Fin 8) (n : Fin 4096) (j : Fin 128) : EReal :=
  coarseRow (m ((c : Thread nD τ).loc main_arg0)) (m ((c : Thread nD τ).loc main_arg2)) (m ((c : Thread nD τ).loc main_arg4))
    (m ((c : Thread nD τ).loc main_arg5)) (m ((c : Thread nD τ).loc main_arg10)) a n j

/-- The fine rows of the arguments at launch. -/
def fineOfArgs (a : Fin 8) (p : Fin 16384) (j : Fin 128) : EReal :=
  fineRow (m ((c : Thread nD τ).loc main_arg1)) (m ((c : Thread nD τ).loc main_arg3)) (m ((c : Thread nD τ).loc main_arg6))
    (m ((c : Thread nD τ).loc main_arg7)) (m ((c : Thread nD τ).loc main_arg10)) a p j

/-! ## What one block holds -/

/-- The first output block of a grid point holds the coarse rows of its batch. -/
theorem coarse_after (t : Fin cfg0.N) (n : Fin 4096) (j : Fin 128) :
    ((dats m 0 c).after 11 t : FVec Ideal S4096x128 .f32) (ix2 n j) = coarseOf m c (batch t) n j := by
  have h := resident m c t
  have H := hostArrays m c
  have hs : IsSel (iblk m c 3 t) := by rw [h.sel, H.sel]; exact onehot_isSel
  rw [after0_11]
  refine (out0_11_apply hs n j).trans ?_
  unfold coarseOf coarseRow
  refine lnMul_congr (fun j => ?_) (fun j => ?_) (fun o => ?_) j
  · rw [h.gDown, H.gDown]; exact line_at _ 0 j
  · rw [h.bDown, H.bDown]; exact line_at _ 0 j
  · refine Finset.sum_congr rfl fun k _ => ?_
    refine congrArg₂ (· * ·) (congrArg₂ (· * ·) ?_ ?_) ?_
    · exact congrArg (quad · n) (funext fun p => fine_block m c t p k)
    · rw [h.scale]; exact scale_at m c n 0
    · rw [h.wDown, H.wDown]; exact square_at _ k o

/-- The second output block of a grid point holds the fine rows of its batch. -/
theorem fine_after (t : Fin cfg0.N) (p : Fin 16384) (j : Fin 128) :
    ((dats m 0 c).after 12 t : FVec Ideal S16384x128 .f32) (ix2 p j) = fineOfArgs m c (batch t) p j := by
  have h := resident m c t
  have H := hostArrays m c
  have hr : IsRep (iblk m c 4 t) := by rw [h.rep, H.rep]; exact onehot_isRep
  rw [after0_12]
  refine (out0_12_apply hr p j).trans ?_
  unfold fineOfArgs fineRow
  refine lnMul_congr (fun j => ?_) (fun j => ?_) (fun o => ?_) j
  · rw [h.gUp, H.gUp]; exact line_at _ 0 j
  · rw [h.bUp, H.bUp]; exact line_at _ 0 j
  · refine congrArg₂ (· * ·) ?_ (Finset.sum_congr rfl fun k _ => congrArg₂ (· * ·) ?_ ?_)
    · rw [h.scale]; exact scale_at m c (under p) 0
    · exact coarse_block m c t (under p) k
    · rw [h.wUp, H.wUp]; exact square_at _ k o

/-! ## What the two arrays hold -/

/-- The coarse array: row `4096 * a + n` is coarse row `n` of batch `a`. -/
def coarseArray : FVec Ideal S32768x128 .f32 := fun i =>
  coarseOf m c ⟨(i 0).val / 4096, by have : (i 0).val < 32768 := (i 0).isLt; omega⟩
    ⟨(i 0).val % 4096, Nat.mod_lt _ (by decide)⟩ (i 1)

/-- The fine array: row `16384 * a + p` is fine row `p` of batch `a`. -/
def fineArray : FVec Ideal S131072x128 .f32 := fun i =>
  fineOfArgs m c ⟨(i 0).val / 16384, by have : (i 0).val < 131072 := (i 0).isLt; omega⟩
    ⟨(i 0).val % 16384, Nat.mod_lt _ (by decide)⟩ (i 1)

/-- The coarse array at a batch and a row. -/
theorem coarseArray_at (a : Fin 8) (n : Fin 4096) (j : Fin 128) (r : Fin 32768) (hr : r.val = 4096 * a.val + n.val) :
    coarseArray m c (ix2 r j) = coarseOf m c a n j := by
  have ha : (⟨r.val / 4096, by omega⟩ : Fin 8) = a := Fin.ext (by show r.val / 4096 = a.val; omega)
  have hn : (⟨r.val % 4096, Nat.mod_lt _ (by decide)⟩ : Fin 4096) = n := Fin.ext (by show r.val % 4096 = n.val; omega)
  show coarseOf m c ⟨r.val / 4096, _⟩ ⟨r.val % 4096, _⟩ j = _
  rw [ha, hn]

/-- The fine array at a batch and a row. -/
theorem fineArray_at (a : Fin 8) (p : Fin 16384) (j : Fin 128) (r : Fin 131072) (hr : r.val = 16384 * a.val + p.val) :
    fineArray m c (ix2 r j) = fineOfArgs m c a p j := by
  have ha : (⟨r.val / 16384, by omega⟩ : Fin 8) = a := Fin.ext (by show r.val / 16384 = a.val; omega)
  have hp : (⟨r.val % 16384, Nat.mod_lt _ (by decide)⟩ : Fin 16384) = p := Fin.ext (by show r.val % 16384 = p.val; omega)
  show fineOfArgs m c ⟨r.val / 16384, _⟩ ⟨r.val % 16384, _⟩ j = _
  rw [ha, hp]

/-- The blocks cover the first output array, so it is the coarse array. -/
theorem coarse_array : (dats m 0 c).arrAt 11 cfg0.N = coarseArray m c := by
  refine (dats m 0 c).arrAt_eq_of_covers 11 _ (by decide +kernel) fun t _ y => ?_
  have ht : t.val < 8 := (batch t).isLt
  blk_simp
  have ey : (y : S4096x128.Idx) = ix2 (y 0) (y 1) := eq_ix2 y
  have e : ((win0_11.blk t).view.emb y : S32768x128.Idx)
      = ix2 ⟨4096 * t.val + (y 0).val, by have : (y 0).val < 4096 := (y 0).isLt; omega⟩ (y 1) := by
    blk_ext [along11]
  exact (congrArg ((dats m 0 c).after 11 t) ey).trans (((coarse_after m c t (y 0) (y 1)).trans
    (coarseArray_at m c (batch t) (y 0) (y 1) _ rfl).symm).trans (congrArg (coarseArray m c) e.symm))

/-- The blocks cover the second output array, so it is the fine array. -/
theorem fine_array : (dats m 0 c).arrAt 12 cfg0.N = fineArray m c := by
  refine (dats m 0 c).arrAt_eq_of_covers 12 _ (by decide +kernel) fun t _ y => ?_
  have ht : t.val < 8 := (batch t).isLt
  blk_simp
  have ey : (y : S16384x128.Idx) = ix2 (y 0) (y 1) := eq_ix2 y
  have e : ((win0_12.blk t).view.emb y : S131072x128.Idx)
      = ix2 ⟨16384 * t.val + (y 0).val, by have : (y 0).val < 16384 := (y 0).isLt; omega⟩ (y 1) := by
    blk_ext [along12]
  exact (congrArg ((dats m 0 c).after 12 t) ey).trans (((fine_after m c t (y 0) (y 1)).trans
    (fineArray_at m c (batch t) (y 0) (y 1) _ rfl).symm).trans (congrArg (fineArray m c) e.symm))

/-! ## The two results -/

/-- The first result: the fine array cut into batches. -/
theorem fine_result (a : Fin 8) (p : Fin 16384) (j : Fin 128) :
    (Pipeline.afterTail₀ cfgs (dats m) 0 (V0 m) [hostOps1] c main_v17 : FVec Ideal S8x16384x128 .f32) (ix3 a p j)
      = fineOfArgs m c a p j := by
  have e : (Pipeline.afterTail₀ cfgs (dats m) 0 (V0 m) [hostOps1] c main_v17 : FVec Ideal S8x16384x128 .f32)
      = shapeCast S8x16384x128 (fineArray m c) shapeCasts_S131072x128_S8x16384x128 := by
    unfold Pipeline.afterTail₀
    show StableHlo.after hostOps1 _ (Proc.devRef .tc main_v17) = _
    after_results
    rw [← fine_array]
    refine congrArg (shapeCast S8x16384x128 · shapeCasts_S131072x128_S8x16384x128) ?_
    exact Pipeline.withArrays_arr spec0 (by decide) c (V0 m c) _ 12
  rw [e]
  refine (shapeCast_apply _ _ _ (ix2 ⟨16384 * a.val + p.val, by omega⟩ j) ?_).trans (fineArray_at m c a p j _ rfl)
  rw [Shape.rowMajor_val_three, Shape.rowMajor_val_two]
  show (16384 * a.val + p.val) * 128 + j.val = (a.val * 16384 + p.val) * 128 + j.val
  omega

/-- The second result: the coarse array cut into batches. -/
theorem coarse_result (a : Fin 8) (n : Fin 4096) (j : Fin 128) :
    (Pipeline.afterTail₀ cfgs (dats m) 0 (V0 m) [hostOps1] c main_v18 : FVec Ideal S8x4096x128 .f32) (ix3 a n j)
      = coarseOf m c a n j := by
  have e : (Pipeline.afterTail₀ cfgs (dats m) 0 (V0 m) [hostOps1] c main_v18 : FVec Ideal S8x4096x128 .f32)
      = shapeCast S8x4096x128 (coarseArray m c) shapeCasts_S32768x128_S8x4096x128 := by
    unfold Pipeline.afterTail₀
    show StableHlo.after hostOps1 _ (Proc.devRef .tc main_v18) = _
    after_results
    rw [← coarse_array]
    refine congrArg (shapeCast S8x4096x128 · shapeCasts_S32768x128_S8x4096x128) ?_
    exact Pipeline.withArrays_arr spec0 (by decide) c (V0 m c) _ 11
  rw [e]
  refine (shapeCast_apply _ _ _ (ix2 ⟨4096 * a.val + n.val, by omega⟩ j) ?_).trans (coarseArray_at m c a n j _ rfl)
  rw [Shape.rowMajor_val_three, Shape.rowMajor_val_two]
  show (4096 * a.val + n.val) * 128 + j.val = (a.val * 4096 + n.val) * 128 + j.val
  omega

end Cert.Cross
-- ==== Proof.Pre.lean ====
/- What the precondition says entry by entry: entry `k = 4096 q + n` of the cross matrix joins coarse cell `n` to its
   `q`-th fine neighbour, and its weight is nonnegative, finite and the same for the four neighbours. -/
module

public import proofs.«01_k».proof.Pre_cross_matrix
public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Cert.Cross

open Cert.Pre_cross_matrix Idealize.ShloMosaic Idealize.ShloMosaic.ValueIdx

/-- The shape relations of the precondition's operations. -/
theorem preFacts : Cert.Pre_cross_matrix.Facts where
  shapeCasts_S16384_S4x4096 := by decide
  shapeCasts_S16384_S2x2x64x64 := by decide
  bcast_S_S2x2x64x64 := by decide
  slices_S16384_S4096_0 := by decide
  bcast_S4096_S4x4096_1 := by decide
  bcast_S_S16384 := by decide

/-- The fine row that entry `k` of the cross matrix names: cell `(2 i + d₀, 2 j + d₁)` of the fine grid, for
    `k = 8192 d₀ + 4096 d₁ + 64 i + j`. -/
def fineOf (k : ℕ) : ℕ := 128 * (2 * (k / 64 % 64) + k / 8192) + (2 * (k % 64) + k / 4096 % 2)

/-- What the three arrays of the cross matrix satisfy. -/
structure IsCross (row col : IVec ⟨1, ![16384]⟩ 32) (vals : FVec Ideal ⟨1, ![16384]⟩ .f32) : Prop where
  /-- Entry `k`'s coarse row. -/
  row : ∀ k : Fin 16384, row (ix1 k) = BitVec.ofNat 32 (k.val % 4096)
  /-- Entry `k`'s fine row. -/
  col : ∀ k : Fin 16384, col (ix1 k) = BitVec.ofNat 32 (fineOf k.val)
  /-- The weight depends on the coarse row alone … -/
  same : ∀ k : Fin 16384, vals (ix1 k) = vals (ix1 ⟨k.val % 4096, by omega⟩)
  /-- … is not negative … -/
  nonneg : ∀ k : Fin 16384, (0 : EReal) ≤ vals (ix1 k)
  /-- … and is finite. -/
  finite : ∀ k : Fin 16384, vals (ix1 k) ≠ (⊤ : EReal)

theorem eq_of_cmpi_eq {w : ℕ} {x y : BitVec w} (h : IntOp.cmpi .eq x y = 1#1) : x = y := by
  by_contra hne
  have : IntOp.cmpi .eq x y = 0#1 := by
    show BitVec.ofBool (x == y) = 0#1
    rw [beq_eq_false_iff_ne.mpr hne]; rfl
  rw [this] at h
  exact absurd h (by decide)

theorem of_decide_bit {p : Prop} [Decidable p] (h : BitVec.ofBool (decide p) = 1#1) : p := by
  by_contra hp
  rw [decide_eq_false hp] at h
  exact absurd h (by decide)

/-- Position `k` of a flat array of 16384 as four coordinates. -/
abbrev quarter (k : Fin 16384) : (⟨4, ![2, 2, 64, 64]⟩ : Shape).Idx :=
  ix4 ⟨k.val / 8192, by omega⟩ ⟨k.val / 4096 % 2, by omega⟩ ⟨k.val / 64 % 64, by omega⟩ ⟨k.val % 64, by omega⟩

section
variable [Cert.Pre_cross_matrix.Facts] (a0 : FVec Ideal S8x16384x128 .f32) (a1 : FVec Ideal S8x4096x128 .f32) (a2 a3 : FVec Ideal S128x128 .f32)
  (a4 a5 a6 a7 : FVec Ideal S128 .f32) (row col : IVec S16384 32) (vals : FVec Ideal S16384 .f32)

theorem cast_quarter (x : IVec S16384 32) (h : S16384.ShapeCasts S2x2x64x64) (k : Fin 16384) :
    shapeCast S2x2x64x64 x h (quarter k) = x (ix1 k) :=
  shapeCast_apply x h _ _ (by
    rw [Shape.rowMajor_val_one, Shape.rowMajor_val_four]
    show k.val = ((k.val / 8192 * 2 + k.val / 4096 % 2) * 64 + k.val / 64 % 64) * 64 + k.val % 64
    omega)

theorem row_of (h : (Cert.Pre_cross_matrix.fn (F := Ideal) a0 a1 a2 a3 a4 a5 a6 a7 row col vals).1 = fun _ => 1#1) (k : Fin 16384) :
    row (ix1 k) = BitVec.ofNat 32 (k.val % 4096) := by
  have h1 := eq_of_cmpi_eq (congrFun h (quarter k))
  rw [cast_quarter] at h1
  rw [h1]
  show BitVec.ofNat 32 64 * BitVec.ofNat 32 (k.val / 64 % 64) + BitVec.ofNat 32 (k.val % 64) = _
  rw [← BitVec.ofNat_mul, ← BitVec.ofNat_add]
  congr 1
  omega

theorem col_of (h : (Cert.Pre_cross_matrix.fn (F := Ideal) a0 a1 a2 a3 a4 a5 a6 a7 row col vals).2.1 = fun _ => 1#1) (k : Fin 16384) :
    col (ix1 k) = BitVec.ofNat 32 (fineOf k.val) := by
  have h1 := eq_of_cmpi_eq (congrFun h (quarter k))
  rw [cast_quarter] at h1
  rw [h1]
  show BitVec.ofNat 32 128 * (BitVec.ofNat 32 2 * BitVec.ofNat 32 (k.val / 64 % 64) + BitVec.ofNat 32 (k.val / 8192))
    + (BitVec.ofNat 32 2 * BitVec.ofNat 32 (k.val % 64) + BitVec.ofNat 32 (k.val / 4096 % 2)) = _
  simp only [← BitVec.ofNat_mul, ← BitVec.ofNat_add]
  rfl

theorem vals_of (h : (Cert.Pre_cross_matrix.fn (F := Ideal) a0 a1 a2 a3 a4 a5 a6 a7 row col vals).2.2.1 = fun _ => 1#1) (k : Fin 16384) :
    vals (ix1 k) = vals (ix1 ⟨k.val % 4096, by omega⟩) := by
  have h1 := of_decide_bit (congrFun h (ix2 ⟨k.val / 4096, by omega⟩ ⟨k.val % 4096, by omega⟩))
  rw [shapeCast_apply vals _ _ (ix1 k) (by
    rw [Shape.rowMajor_val_one, Shape.rowMajor_val_two]
    show k.val = k.val / 4096 * 4096 + k.val % 4096
    omega)] at h1
  rw [broadcastInDim_apply _ _ _ _ (ix1 ⟨k.val % 4096, by omega⟩) (fun a => match a with
    | ⟨0, _⟩ => by show k.val % 4096 = if (4096 : ℕ) = 1 then 0 else k.val % 4096; rw [if_neg (by decide)])] at h1
  exact h1.trans (extractStridedSlice_apply _ vals _ _ (ix1 ⟨k.val % 4096, by omega⟩) (fun a => match a with
    | ⟨0, _⟩ => by show k.val % 4096 = 0 + k.val % 4096; omega))

theorem nonneg_of (h : (Cert.Pre_cross_matrix.fn (F := Ideal) a0 a1 a2 a3 a4 a5 a6 a7 row col vals).2.2.2.1 = fun _ => 1#1) (k : Fin 16384) :
    (0 : EReal) ≤ vals (ix1 k) := by
  have h1 : Ideal.ofBits .f32 0x00000000#32 ≤ vals (ix1 k) := of_decide_bit (congrFun h (ix1 k))
  rwa [Ideal.ofBits_zero_f32] at h1

theorem finite_of (h : (Cert.Pre_cross_matrix.fn (F := Ideal) a0 a1 a2 a3 a4 a5 a6 a7 row col vals).2.2.2.2 = fun _ => 1#1) (k : Fin 16384) :
    vals (ix1 k) ≠ (⊤ : EReal) := by
  have h1 : vals (ix1 k) < Ideal.ofBits .f32 0x7F800000#32 := of_decide_bit (congrFun h (ix1 k))
  exact (lt_of_lt_of_le h1 le_top).ne

end

end Cert.Cross
-- ==== Proof.RefNorm.lean ====
/- Layer normalisation of the last axis and the clamp at zero, as the reference's host operations spell them over an array of
   `8 × R` rows, read at an index. -/
module

public import proofs.«01_k».proof.Proof.Algebra
public import Idealize.ShloMosaic.Lib.ValueIdx
public import Idealize.ShloMosaic.Lib.Pipeline.Value
public import Idealize.ShloMosaic.PureOps.Ideal.Laws

@[expose] public section

noncomputable section

namespace Cert.Cross

open Idealize.ShloMosaic Idealize.ShloMosaic.ValueIdx
open scoped BigOperators

variable {R : ℕ}

/-- The shape relations between the arrays of a normalisation of `8 × R` rows of 128 lanes. -/
structure NormShapes (R : ℕ) : Prop where
  sums : (⟨3, ![8, R, 128]⟩ : Shape).ReducesTo [2] ⟨2, ![8, R]⟩
  sums' : (⟨3, ![8, R, 128]⟩ : Shape).Reduces [2] ⟨2, ![8, R]⟩
  keep : (⟨2, ![8, R]⟩ : Shape).BroadcastsInDim ⟨3, ![8, R, 1]⟩ (![0, 1] : Fin 2 → Fin 3)
  one : (⟨0, ![]⟩ : Shape).BroadcastsInDim ⟨3, ![8, R, 1]⟩ (![] : Fin 0 → Fin 3)
  wide : (⟨3, ![8, R, 1]⟩ : Shape).BroadcastsInDim ⟨3, ![8, R, 128]⟩ (![0, 1, 2] : Fin 3 → Fin 3)
  lanes : (⟨1, ![128]⟩ : Shape).BroadcastsInDim ⟨3, ![1, 1, 128]⟩ (![2] : Fin 1 → Fin 3)
  rows : (⟨3, ![1, 1, 128]⟩ : Shape).BroadcastsInDim ⟨3, ![8, R, 128]⟩ (![0, 1, 2] : Fin 3 → Fin 3)
  all : (⟨0, ![]⟩ : Shape).BroadcastsInDim ⟨3, ![8, R, 128]⟩ (![] : Fin 0 → Fin 3)
  pos : 0 < (⟨0, ![]⟩ : Shape).numel

namespace NormShapes

variable (h : NormShapes R)

/-- A single number. -/
abbrev number (b : BitVec 32) : FVec Ideal ⟨0, ![]⟩ .f32 := constant (⟨0, ![]⟩ : Shape) .f32 b

/-- The row sums, one lane wide. -/
def total (v : FVec Ideal ⟨3, ![8, R, 128]⟩ .f32) : FVec Ideal ⟨3, ![8, R, 1]⟩ .f32 :=
  broadcastInDim _ ![0, 1] h.keep (Host.reduceAdd (F := Ideal) v (number 0x00000000#32) h.sums h.pos)

/-- The row means, one lane wide. -/
def means (v : FVec Ideal ⟨3, ![8, R, 128]⟩ .f32) : FVec Ideal ⟨3, ![8, R, 1]⟩ .f32 :=
  Host.divf (h.total v) (broadcastInDim _ ![] h.one (number 0x43000000#32))

/-- The deviations from the row means. -/
def devs (v : FVec Ideal ⟨3, ![8, R, 128]⟩ .f32) : FVec Ideal ⟨3, ![8, R, 128]⟩ .f32 :=
  subf v (broadcastInDim _ ![0, 1, 2] h.wide (h.means v))

/-- The divisor of a variance: the row length less zero degrees of freedom. -/
def divisor : FVec Ideal ⟨0, ![]⟩ .f32 := subf (number 0x43000000#32) (sitofp .f32 (constantI (⟨0, ![]⟩ : Shape) 32 0#32))

/-- The row variances, one lane wide: the quotient where the divisor is positive, a filler where it is not. -/
def vars (v : FVec Ideal ⟨3, ![8, R, 128]⟩ .f32) : FVec Ideal ⟨3, ![8, R, 1]⟩ .f32 :=
  select (broadcastInDim _ ![] h.one (cmpf .ogt divisor (number 0x00000000#32)))
    (Host.divf (h.total (mulf (h.devs v) (h.devs v))) (broadcastInDim _ ![] h.one divisor))
    (broadcastInDim _ ![] h.one (id (number 0x7FC00000#32)))

/-- A row of 128 numbers under every row. -/
def spread (g : FVec Ideal ⟨1, ![128]⟩ .f32) : FVec Ideal ⟨3, ![8, R, 128]⟩ .f32 :=
  broadcastInDim _ ![0, 1, 2] h.rows (broadcastInDim _ ![2] h.lanes g)

/-- The normalised, scaled, shifted and clamped array. -/
def norm (v : FVec Ideal ⟨3, ![8, R, 128]⟩ .f32) (g b : FVec Ideal ⟨1, ![128]⟩ .f32) : FVec Ideal ⟨3, ![8, R, 128]⟩ .f32 :=
  maximumf
    (addf
      (mulf
        (Host.divf (h.devs v)
          (broadcastInDim _ ![0, 1, 2] h.wide
            (Host.sqrt (addf (h.vars v) (broadcastInDim _ ![] h.one (number 0x3727C5AC#32))))))
        (h.spread g))
      (h.spread b))
    (broadcastInDim _ ![] h.all (number 0x00000000#32))

theorem one_apply {α : Type} (x : (⟨0, ![]⟩ : Shape).Idx → α) (a : Fin 8) (n : Fin R) :
    broadcastInDim _ ![] h.one x (ix3 a n (0 : Fin 1)) = x ix0 :=
  broadcastInDim_apply _ h.one x _ _ fun d => d.elim0

theorem all_apply {α : Type} (x : (⟨0, ![]⟩ : Shape).Idx → α) (a : Fin 8) (n : Fin R) (j : Fin 128) :
    broadcastInDim _ ![] h.all x (ix3 a n j) = x ix0 :=
  broadcastInDim_apply _ h.all x _ _ fun d => d.elim0

theorem wide_apply (x : FVec Ideal ⟨3, ![8, R, 1]⟩ .f32) (a : Fin 8) (n : Fin R) (j : Fin 128) :
    broadcastInDim _ ![0, 1, 2] h.wide x (ix3 a n j) = x (ix3 a n 0) :=
  broadcastInDim_apply _ h.wide x _ _ fun d => by
    have hn := n.isLt
    match d with
    | ⟨0, _⟩ => rfl
    | ⟨1, _⟩ =>
      show n.val = if R = 1 then 0 else n.val
      split <;> omega
    | ⟨2, _⟩ => rfl

theorem spread_apply (g : FVec Ideal ⟨1, ![128]⟩ .f32) (a : Fin 8) (n : Fin R) (j : Fin 128) : h.spread g (ix3 a n j) = g (ix1 j) := by
  unfold spread
  refine (broadcastInDim_apply _ h.rows _ _ (ix3 0 0 j) fun d => ?_).trans (broadcastInDim_apply _ h.lanes g _ _ fun d => ?_)
  · match d with
    | ⟨0, _⟩ => rfl
    | ⟨1, _⟩ => rfl
    | ⟨2, _⟩ => rfl
  · match d with
    | ⟨0, _⟩ => rfl

theorem total_apply (v : FVec Ideal ⟨3, ![8, R, 128]⟩ .f32) (a : Fin 8) (n : Fin R) : h.total v (ix3 a n 0) = ∑ j : Fin 128, v (ix3 a n j) := by
  unfold total
  refine (broadcastInDim_apply _ h.keep _ _ (ix2 a n) fun d => ?_).trans ?_
  · have hn := n.isLt
    match d with
    | ⟨0, _⟩ => rfl
    | ⟨1, _⟩ =>
      show n.val = if R = 1 then 0 else n.val
      split <;> omega
  · simp only [Host.reduceAdd, Ideal.hostReduceAdd_def]
    rw [Ideal.hostReduceAdd_single h.sums h.sums']
    refine (congrArg (· + _) Ideal.ofBits_zero_f32).trans ((zero_add _).trans (Finset.sum_congr rfl fun k _ => ?_))
    exact congrArg v (funext fun d => Fin.ext (by match d with | ⟨0, _⟩ => rfl | ⟨1, _⟩ => rfl | ⟨2, _⟩ => rfl))

theorem means_apply (v : FVec Ideal ⟨3, ![8, R, 128]⟩ .f32) (a : Fin 8) (n : Fin R) : h.means v (ix3 a n 0) = mean fun j => v (ix3 a n j) := by
  show Ideal.div (h.total v (ix3 a n 0)) (broadcastInDim _ ![] h.one (number 0x43000000#32) (ix3 a n 0)) = _
  rw [h.total_apply, h.one_apply]
  rfl

theorem devs_apply (v : FVec Ideal ⟨3, ![8, R, 128]⟩ .f32) (a : Fin 8) (n : Fin R) (j : Fin 128) :
    h.devs v (ix3 a n j) = v (ix3 a n j) - mean fun j => v (ix3 a n j) := by
  show v (ix3 a n j) - broadcastInDim _ ![0, 1, 2] h.wide (h.means v) (ix3 a n j) = _
  rw [h.wide_apply, h.means_apply]

theorem divisor_eq : divisor ix0 = len := by
  show len - (((0#32 : BitVec 32).toInt : ℝ) : EReal) = len
  simp

theorem vars_apply (v : FVec Ideal ⟨3, ![8, R, 128]⟩ .f32) (a : Fin 8) (n : Fin R) : h.vars v (ix3 a n 0) = var fun j => v (ix3 a n j) := by
  have hc : broadcastInDim _ ![] h.one (cmpf .ogt divisor (number 0x00000000#32)) (ix3 a n (0 : Fin 1)) = 1#1 := by
    rw [h.one_apply]
    show Ideal.cmp .ogt (divisor ix0) (Ideal.ofBits .f32 0x00000000#32) = 1#1
    rw [divisor_eq, Ideal.ofBits_zero_f32, len_eq]
    show BitVec.ofBool (decide ((0 : EReal) < ((128 : ℝ) : EReal))) = 1#1
    rw [decide_eq_true (by exact_mod_cast (by norm_num : (0 : ℝ) < 128))]
    rfl
  unfold vars select
  show (if broadcastInDim _ ![] h.one (cmpf .ogt divisor (number 0x00000000#32)) (ix3 a n (0 : Fin 1)) = 1#1 then _ else _) = _
  rw [if_pos hc]
  show Ideal.div (h.total (mulf (h.devs v) (h.devs v)) (ix3 a n 0)) (broadcastInDim _ ![] h.one divisor (ix3 a n 0)) = _
  rw [h.total_apply, h.one_apply, divisor_eq]
  unfold var
  refine congrArg (Ideal.div · len) (Finset.sum_congr rfl fun j _ => ?_)
  show h.devs v (ix3 a n j) * h.devs v (ix3 a n j) = _
  rw [h.devs_apply]

/-- The normalised array at an index. -/
theorem norm_apply (v : FVec Ideal ⟨3, ![8, R, 128]⟩ .f32) (g b : FVec Ideal ⟨1, ![128]⟩ .f32) (a : Fin 8) (n : Fin R) (j : Fin 128) :
    h.norm v g b (ix3 a n j) = lnDiv (fun j => g (ix1 j)) (fun j => b (ix1 j)) (fun j => v (ix3 a n j)) j := by
  show max (Ideal.div (h.devs v (ix3 a n j)) (broadcastInDim _ ![0, 1, 2] h.wide
        (Host.sqrt (addf (h.vars v) (broadcastInDim _ ![] h.one (number 0x3727C5AC#32)))) (ix3 a n j)) * h.spread g (ix3 a n j) + h.spread b (ix3 a n j))
      (broadcastInDim _ ![] h.all (number 0x00000000#32) (ix3 a n j)) = _
  rw [h.devs_apply, h.spread_apply, h.spread_apply, h.all_apply, h.wide_apply]
  show max (Ideal.div _ (Ideal.sqrt (h.vars v (ix3 a n 0) + broadcastInDim _ ![] h.one (number 0x3727C5AC#32) (ix3 a n 0))) * _ + _) (Ideal.ofBits .f32 0x00000000#32) = _
  rw [h.vars_apply, h.one_apply, Ideal.ofBits_zero_f32]
  rfl

end NormShapes

end Cert.Cross
-- ==== Proof.Rows.lean ====
/- Rows taken and rows added by a column of row numbers: a gather of whole rows and a scatter that adds whole rows, each
   read at a row and a lane. -/
module

public import Idealize.ShloMosaic.Lib.ValueIdx
public import Idealize.ShloMosaic.Lib.StableHlo
public import Idealize.ShloMosaic.PureOps.Ideal.Laws

@[expose] public section

noncomputable section

namespace Cert.Cross

open Idealize.ShloMosaic Idealize.ShloMosaic.ValueIdx
open scoped BigOperators

variable {N K L : ℕ}

/-- Whole rows of an `N × L` array taken by a column of `K` row numbers. -/
abbrev takeDims (N K L : ℕ) (wf : GatherDims.WF ⟨2, ![N, L]⟩ ⟨2, ![K, 1]⟩ ⟨2, ![K, L]⟩ [1] [0] [] [0] [] 1 ![1, L]) :
    GatherDims ⟨2, ![N, L]⟩ ⟨2, ![K, 1]⟩ ⟨2, ![K, L]⟩ where
  offsetDims := [1]
  collapsedSliceDims := [0]
  operandBatchingDims := []
  startIndicesBatchingDims := []
  startIndexMap := [0]
  indexVectorDim := 1
  sliceSizes := ![1, L]
  wf := wf

/-- Whole rows of a `K × L` array added to the rows of an `N × L` array named by a column of `K` row numbers. -/
abbrev addDims (N K L : ℕ) (wf : ScatterDims.WF ⟨2, ![N, L]⟩ ⟨2, ![K, 1]⟩ ⟨2, ![K, L]⟩ [1] [0] [0] 1) :
    ScatterDims ⟨2, ![N, L]⟩ ⟨2, ![K, 1]⟩ ⟨2, ![K, L]⟩ where
  updateWindowDims := [1]
  insertedWindowDims := [0]
  scatterDimsToOperandDims := [0]
  indexVectorDim := 1
  wf := wf

/-- Row `k` of the rows taken is the row that entry `k` of the column names. -/
theorem take_apply {α : Type} {w : ℕ} (wf) (x : (⟨2, ![N, L]⟩ : Shape).Idx → α) (idx : IVec ⟨2, ![K, 1]⟩ w) (k : Fin K) (l : Fin L) (n : Fin N)
    (hn : (idx (ix2 k 0)).toInt = n.val) : Host.gather (takeDims N K L wf) x idx (ix2 k l) = x (ix2 n l) := by
  unfold Host.gather
  refine congrArg x (funext fun a => Fin.ext ?_)
  show (takeDims N K L wf).start (ix2 k l) idx a + (takeDims N K L wf).batchCoord (ix2 k l) a + (takeDims N K L wf).offCoord (ix2 k l) a = _
  rw [GatherDims.batchCoord_eq_zero _ _ _ (fun h => by simp at h), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, Nat.two_pos⟩ : Fin 2) ∈ (takeDims N K L wf).startIndexMap from List.mem_singleton.mpr rfl)]
    have hsi : (takeDims N K L wf).siIdx (ix2 k l) ⟨List.idxOf (⟨0, Nat.two_pos⟩ : Fin 2) (takeDims N K L wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi, hn]
    show min (n.val : ℤ).toNat (N - 1) = n.val
    have := n.isLt
    rw [Int.toNat_natCast]; omega
  | ⟨1, _⟩ =>
    have h0 : (takeDims N K L wf).start (ix2 k l) idx ⟨1, Nat.one_lt_two⟩ = 0 := by
      unfold GatherDims.start
      rw [dif_neg (show ¬(⟨1, Nat.one_lt_two⟩ : Fin 2) ∈ (takeDims N K L wf).startIndexMap from by simp)]
    rw [h0, Nat.zero_add]
    rfl

/-- Where row `k`'s lane `l` lands: in the row that entry `k` of the column names, in the same lane. -/
theorem landing {w : ℕ} (wf) (idx : IVec ⟨2, ![K, 1]⟩ w) (k : Fin K) (l : Fin L) (n : Fin N) (l' : Fin L) :
    (addDims N K L wf).resultIdx? (ix2 k l) idx = some (ix2 n l') ↔ (idx (ix2 k 0)).toInt = n.val ∧ l = l' := by
  have hs0 : (addDims N K L wf).start (ix2 k l) idx 0 = (idx (ix2 k 0)).toInt := by
    unfold ScatterDims.start
    rw [dif_pos (show (0 : Fin 2) ∈ (addDims N K L wf).scatterDimsToOperandDims from List.mem_singleton.mpr rfl)]
    refine congrArg (fun i => (idx i).toInt) (funext fun b => Fin.ext ?_)
    match b with
    | ⟨0, _⟩ => rfl
    | ⟨1, _⟩ => rfl
  have hs1 : (addDims N K L wf).start (ix2 k l) idx 1 = 0 := by
    unfold ScatterDims.start
    rw [dif_neg (show ¬(1 : Fin 2) ∈ (addDims N K L wf).scatterDimsToOperandDims from by simp)]
  have hw0 : (addDims N K L wf).window (ix2 k l) 0 = 0 := rfl
  have hw1 : (addDims N K L wf).window (ix2 k l) 1 = l.val := rfl
  unfold ScatterDims.resultIdx?
  constructor
  · intro h
    split at h
    · rename_i hb
      have h0 := congrArg Fin.val (congrFun (Option.some.inj h) 0)
      have h1 := congrArg Fin.val (congrFun (Option.some.inj h) 1)
      have hb0 := hb 0
      simp only [hs0, hw0, hs1, hw1] at h0 h1 hb0
      change _ = n.val at h0
      change _ = l'.val at h1
      exact ⟨by omega, Fin.ext (by omega)⟩
    · exact absurd h (by simp)
  · rintro ⟨h, rfl⟩
    rw [dif_pos (fun a => by
      match a with
      | ⟨0, _⟩ =>
        show 0 ≤ (addDims N K L wf).start (ix2 k l) idx 0 + (addDims N K L wf).window (ix2 k l) 0 ∧ (addDims N K L wf).start (ix2 k l) idx 0 + (addDims N K L wf).window (ix2 k l) 0 < (N : ℤ)
        rw [hs0, hw0, h]
        have := n.isLt
        omega
      | ⟨1, _⟩ =>
        show 0 ≤ (addDims N K L wf).start (ix2 k l) idx 1 + (addDims N K L wf).window (ix2 k l) 1 ∧ (addDims N K L wf).start (ix2 k l) idx 1 + (addDims N K L wf).window (ix2 k l) 1 < (L : ℤ)
        rw [hs1, hw1]
        have := l.isLt
        omega)]
    refine congrArg some (funext fun a => Fin.ext ?_)
    match a with
    | ⟨0, _⟩ =>
      show ((addDims N K L wf).start (ix2 k l) idx 0 + (addDims N K L wf).window (ix2 k l) 0).toNat = n.val
      rw [hs0, hw0, h]; omega
    | ⟨1, _⟩ =>
      show ((addDims N K L wf).start (ix2 k l) idx 1 + (addDims N K L wf).window (ix2 k l) 1).toNat = l.val
      rw [hs1, hw1]; omega

/-- Row `n` of the rows added: what it held, and the rows whose entry of the column names it. -/
theorem add_apply (wf) (x : FVec Ideal ⟨2, ![N, L]⟩ .f32) (idx : IVec ⟨2, ![K, 1]⟩ 32) (u : FVec Ideal ⟨2, ![K, L]⟩ .f32) (n : Fin N) (l : Fin L) :
    Host.scatterAdd (addDims N K L wf) x idx u (ix2 n l)
      = x (ix2 n l) + ∑ k ∈ Finset.univ.filter (fun k : Fin K => (idx (ix2 k 0)).toInt = n.val), u (ix2 k l) := by
  show x (ix2 n l) + ∑ j ∈ Finset.univ.filter (fun j => (addDims N K L wf).resultIdx? j idx = some (ix2 n l)), u j = _
  refine congrArg (x (ix2 n l) + ·) (Eq.symm ?_)
  refine Finset.sum_bij (fun k _ => ix2 k l) ?_ ?_ ?_ (fun _ _ => rfl)
  · intro k hk
    exact Finset.mem_filter.mpr ⟨Finset.mem_univ _, (landing wf idx k l n l).mpr ⟨(Finset.mem_filter.mp hk).2, rfl⟩⟩
  · intro k _ k' _ h
    exact congrFun h 0
  · intro j hj
    obtain ⟨k, l'', rfl⟩ : ∃ k l'', j = ix2 k l'' := ⟨_, _, eq_ix2 j⟩
    obtain ⟨hk, rfl⟩ := (landing wf idx k l'' n l).mp (Finset.mem_filter.mp hj).2
    exact ⟨k, Finset.mem_filter.mpr ⟨Finset.mem_univ _, hk⟩, rfl⟩

end Cert.Cross
-- ==== Proof.RefSpmm.lean ====
/- The reference's product of a sparse matrix in coordinates with an array, as its host operations spell it: the rows of the
   array taken by one column of indices, scaled by the weights and added to the rows the other column names. -/
module

public import proofs.«01_k».proof.Proof.Rows
public import Idealize.ShloMosaic.Lib.Pipeline.Value

@[expose] public section

noncomputable section

namespace Cert.Cross

open Idealize.ShloMosaic Idealize.ShloMosaic.ValueIdx
open scoped BigOperators

variable {N R : ℕ}

/-- The shape relations of the product: 16384 weighted pairs, an array of `8 × N` rows in, one of `8 × R` rows out. -/
structure SpShapes (N R : ℕ) : Prop where
  enter : (⟨3, ![8, N, 128]⟩ : Shape).Transposes [1, 0, 2] ⟨3, ![N, 8, 128]⟩
  flat : (⟨3, ![N, 8, 128]⟩ : Shape).ShapeCasts ⟨2, ![N, 1024]⟩
  fold : (⟨2, ![R, 1024]⟩ : Shape).ShapeCasts ⟨3, ![R, 8, 128]⟩
  leave : (⟨3, ![R, 8, 128]⟩ : Shape).Transposes [1, 0, 2] ⟨3, ![8, R, 128]⟩
  each : (⟨0, ![]⟩ : Shape).BroadcastsInDim ⟨1, ![16384]⟩ (![] : Fin 0 → Fin 1)
  column : (⟨1, ![16384]⟩ : Shape).BroadcastsInDim ⟨2, ![16384, 1]⟩ (![0] : Fin 1 → Fin 2)
  across : (⟨2, ![16384, 1]⟩ : Shape).BroadcastsInDim ⟨2, ![16384, 1024]⟩ (![0, 1] : Fin 2 → Fin 2)
  blank : (⟨0, ![]⟩ : Shape).BroadcastsInDim ⟨2, ![R, 1024]⟩ (![] : Fin 0 → Fin 2)
  take : GatherDims.WF ⟨2, ![N, 1024]⟩ ⟨2, ![16384, 1]⟩ ⟨2, ![16384, 1024]⟩ [1] [0] [] [0] [] 1 ![1, 1024]
  add : ScatterDims.WF ⟨2, ![R, 1024]⟩ ⟨2, ![16384, 1]⟩ ⟨2, ![16384, 1024]⟩ [1] [0] [0] 1

namespace SpShapes

variable (h : SpShapes N R)

/-- Lane `l` of batch `a` in a row of all batches. -/
abbrev lane (a : Fin 8) (l : Fin 128) : Fin 1024 := ⟨128 * a.val + l.val, by omega⟩

/-- The array with a row of all batches for each row. -/
def rows (x : FVec Ideal ⟨3, ![8, N, 128]⟩ .f32) : FVec Ideal ⟨2, ![N, 1024]⟩ .f32 :=
  shapeCast _ (transpose _ [1, 0, 2] x h.enter) h.flat

/-- The indices, a negative one counted from the end (`top` being the number of rows). -/
def wrapped (top : BitVec 32) (s : IVec ⟨1, ![16384]⟩ 32) : IVec ⟨1, ![16384]⟩ 32 :=
  select (cmpi .slt s (broadcastInDim _ ![] h.each (constantI (⟨0, ![]⟩ : Shape) 32 0#32)))
    (addi s (broadcastInDim _ ![] h.each (constantI (⟨0, ![]⟩ : Shape) 32 top))) s

/-- The rows taken and weighted. -/
def scaled (top : BitVec 32) (x : FVec Ideal ⟨3, ![8, N, 128]⟩ .f32) (s : IVec ⟨1, ![16384]⟩ 32) (v : FVec Ideal ⟨1, ![16384]⟩ .f32) :
    FVec Ideal ⟨2, ![16384, 1024]⟩ .f32 :=
  mulf (broadcastInDim _ ![0, 1] h.across (broadcastInDim _ ![0] h.column v))
    (Host.gather (takeDims N 16384 1024 h.take) (h.rows x) (broadcastInDim _ ![0] h.column (h.wrapped top s)))

/-- The product. -/
def prod (top : BitVec 32) (x : FVec Ideal ⟨3, ![8, N, 128]⟩ .f32) (s d : IVec ⟨1, ![16384]⟩ 32) (v : FVec Ideal ⟨1, ![16384]⟩ .f32) :
    FVec Ideal ⟨3, ![8, R, 128]⟩ .f32 :=
  transpose _ [1, 0, 2]
    (shapeCast _
      (Host.scatterAdd (F := Ideal) (addDims R 16384 1024 h.add)
        (broadcastInDim _ ![] h.blank (constant (F := Ideal) (⟨0, ![]⟩ : Shape) .f32 0x00000000#32))
        (broadcastInDim _ ![0] h.column d) (h.scaled top x s v)) h.fold) h.leave

theorem column_apply {α : Type} (x : (⟨1, ![16384]⟩ : Shape).Idx → α) (k : Fin 16384) :
    broadcastInDim _ ![0] h.column x (ix2 k (0 : Fin 1)) = x (ix1 k) :=
  broadcastInDim_apply _ h.column x _ _ fun d => by
    match d with
    | ⟨0, _⟩ => rfl

theorem rows_apply (x : FVec Ideal ⟨3, ![8, N, 128]⟩ .f32) (n : Fin N) (a : Fin 8) (l : Fin 128) : h.rows x (ix2 n (lane a l)) = x (ix3 a n l) := by
  unfold rows
  refine (shapeCast_apply _ h.flat _ (ix3 n a l) ?_).trans ?_
  · rw [Shape.rowMajor_val_two, Shape.rowMajor_val_three]
    show (n.val * 8 + a.val) * 128 + l.val = n.val * 1024 + (128 * a.val + l.val)
    omega
  · exact transpose_apply [1, 0, 2] x h.enter _ _ fun b => by
      match b with
      | ⟨0, _⟩ => rfl
      | ⟨1, _⟩ => rfl
      | ⟨2, _⟩ => rfl

/-- A small natural number as a word reads back as itself. -/
theorem toInt_small {n : ℕ} (hn : n < 2 ^ 31) : (BitVec.ofNat 32 n).toInt = n := by
  rw [BitVec.toInt_eq_toNat_of_lt (by rw [BitVec.toNat_ofNat]; omega), BitVec.toNat_ofNat]
  omega

/-- An index that is not negative stays. -/
theorem wrapped_apply (top : BitVec 32) (s : IVec ⟨1, ![16384]⟩ 32) (k : Fin 16384) {n : ℕ} (hn : n < 2 ^ 31) (hs : s (ix1 k) = BitVec.ofNat 32 n) :
    h.wrapped top s (ix1 k) = BitVec.ofNat 32 n := by
  unfold wrapped select
  have hc : cmpi .slt s (broadcastInDim _ ![] h.each (constantI (⟨0, ![]⟩ : Shape) 32 0#32)) (ix1 k) = 0#1 := by
    show BitVec.ofBool ((s (ix1 k)).slt 0#32) = 0#1
    rw [hs, BitVec.slt, toInt_small hn, decide_eq_false (by simp)]
    rfl
  show (if cmpi .slt s (broadcastInDim _ ![] h.each (constantI (⟨0, ![]⟩ : Shape) 32 0#32)) (ix1 k) = 1#1 then _ else _) = _
  rw [hc, if_neg (by decide)]
  exact hs

/-- Pair `k`'s row: its weight times the row its source index names. -/
theorem scaled_apply (top : BitVec 32) (x : FVec Ideal ⟨3, ![8, N, 128]⟩ .f32) (s : IVec ⟨1, ![16384]⟩ 32) (v : FVec Ideal ⟨1, ![16384]⟩ .f32)
    (k : Fin 16384) (a : Fin 8) (l : Fin 128) (n : Fin N) (hN : N < 2 ^ 31) (hs : s (ix1 k) = BitVec.ofNat 32 n.val) :
    h.scaled top x s v (ix2 k (lane a l)) = v (ix1 k) * x (ix3 a n l) := by
  unfold scaled
  rw [mulf_apply]
  have hn : n.val < 2 ^ 31 := lt_trans n.isLt hN
  refine congrArg₂ (· * ·) ?_ ?_
  · refine (broadcastInDim_apply _ h.across _ _ (ix2 k 0) fun d => ?_).trans (h.column_apply v k)
    match d with
    | ⟨0, _⟩ => rfl
    | ⟨1, _⟩ => rfl
  · refine (take_apply h.take _ _ k (lane a l) n ?_).trans (h.rows_apply x n a l)
    rw [h.column_apply, h.wrapped_apply top s k hn hs, toInt_small hn]

/-- The product at an index: the weighted source rows of the pairs whose target is this row. -/
theorem prod_apply (top : BitVec 32) (x : FVec Ideal ⟨3, ![8, N, 128]⟩ .f32) (s d : IVec ⟨1, ![16384]⟩ 32) (v : FVec Ideal ⟨1, ![16384]⟩ .f32)
    (src : Fin 16384 → Fin N) (tgt : Fin 16384 → ℕ) (hN : N < 2 ^ 31) (hs : ∀ k, s (ix1 k) = BitVec.ofNat 32 (src k).val)
    (ht : ∀ k, tgt k < 2 ^ 31) (hd : ∀ k, d (ix1 k) = BitVec.ofNat 32 (tgt k)) (a : Fin 8) (n : Fin R) (l : Fin 128) :
    h.prod top x s d v (ix3 a n l) = ∑ k ∈ Finset.univ.filter (fun k => tgt k = n.val), v (ix1 k) * x (ix3 a (src k) l) := by
  unfold prod
  refine (transpose_apply [1, 0, 2] _ h.leave _ (ix3 n a l) fun b => ?_).trans ?_
  · match b with
    | ⟨0, _⟩ => rfl
    | ⟨1, _⟩ => rfl
    | ⟨2, _⟩ => rfl
  refine (shapeCast_apply _ h.fold _ (ix2 n (lane a l)) ?_).trans ?_
  · rw [Shape.rowMajor_val_two, Shape.rowMajor_val_three]
    show n.val * 1024 + (128 * a.val + l.val) = (n.val * 8 + a.val) * 128 + l.val
    omega
  refine (add_apply h.add _ _ _ n (lane a l)).trans ?_
  have h0 : broadcastInDim _ ![] h.blank (constant (F := Ideal) (⟨0, ![]⟩ : Shape) .f32 0x00000000#32) (ix2 n (lane a l)) = (0 : EReal) :=
    (broadcastInDim_apply _ h.blank _ _ ix0 fun d => d.elim0).trans Ideal.ofBits_zero_f32
  rw [h0, zero_add]
  refine Finset.sum_congr (Finset.filter_congr fun k _ => ?_) fun k _ => h.scaled_apply top x s v k a l (src k) hN (hs k)
  rw [h.column_apply, hd, toInt_small (ht k)]
  exact Nat.cast_inj

end SpShapes

end Cert.Cross
-- ==== Proof.RefValue.lean ====
/- What the reference computes where the index arrays are the cross matrix's: each result at an index, as a normalised row of
   a product with a weight. -/
module

public import proofs.«01_k».proof.Proof.Pre
public import proofs.«01_k».proof.Proof.KernelBlock
public import proofs.«01_k».proof.Proof.RefNorm
public import proofs.«01_k».proof.Proof.RefSpmm
public import proofs.«01_k».proof.Proof.Gen.ReferenceIdeal.Read

@[expose] public section

noncomputable section

namespace Cert.Cross

open Idealize.ShloMosaic Idealize.ShloMosaic.ValueIdx
open scoped BigOperators

theorem fineOf_lt (k : Fin 16384) : fineOf k.val < 16384 := by
  unfold fineOf; omega

/-- The pair whose fine row is `p`. -/
def hit (p : Fin 16384) : Fin 16384 := ⟨8192 * (p.val / 128 % 2) + 4096 * (p.val % 2) + (under p).val, by unfold under; dsimp only; omega⟩

theorem fineOf_parts {A B C D : ℕ} (hA : A < 2) (hB : B < 2) (hC : C < 64) (hD : D < 64) :
    fineOf (8192 * A + 4096 * B + 64 * C + D) = 256 * C + 128 * A + 2 * D + B := by
  unfold fineOf
  have h1 : (8192 * A + 4096 * B + 64 * C + D) / 64 % 64 = C := by omega
  have h2 : (8192 * A + 4096 * B + 64 * C + D) / 8192 = A := by omega
  have h3 : (8192 * A + 4096 * B + 64 * C + D) % 64 = D := by omega
  have h4 : (8192 * A + 4096 * B + 64 * C + D) / 4096 % 2 = B := by omega
  rw [h1, h2, h3, h4]
  omega

theorem fineOf_eq_iff (k p : Fin 16384) : fineOf k.val = p.val ↔ k = hit p := by
  obtain ⟨A, B, C, D, hA, hB, hC, hD, hk⟩ : ∃ A B C D, A < 2 ∧ B < 2 ∧ C < 64 ∧ D < 64 ∧ k.val = 8192 * A + 4096 * B + 64 * C + D :=
    ⟨k.val / 8192, k.val / 4096 % 2, k.val / 64 % 64, k.val % 64, by omega, by omega, by omega, by omega, by omega⟩
  obtain ⟨E, G, H, I, hE, hG, hH, hI, hp⟩ : ∃ E G H I, E < 2 ∧ G < 2 ∧ H < 64 ∧ I < 64 ∧ p.val = 256 * H + 128 * E + 2 * I + G :=
    ⟨p.val / 128 % 2, p.val % 2, p.val / 256, p.val % 128 / 2, by omega, by omega, by omega, by omega, by omega⟩
  rw [Fin.ext_iff, hk, fineOf_parts hA hB hC hD]
  have hh : (hit p).val = 8192 * E + 4096 * G + 64 * H + I := by
    show 8192 * (p.val / 128 % 2) + 4096 * (p.val % 2) + (64 * (p.val / 256) + p.val % 128 / 2) = _
    have h1 : p.val / 128 % 2 = E := by omega
    have h2 : p.val % 2 = G := by omega
    have h3 : p.val / 256 = H := by omega
    have h4 : p.val % 128 / 2 = I := by omega
    rw [h1, h2, h3, h4]
    omega
  rw [hh, hp]
  clear hh hp hk
  constructor
  · intro h
    have h1 : C = H := by omega
    have h2 : A = E := by omega
    have h3 : D = I := by omega
    omega
  · intro h
    have h1 : A = E := by omega
    have h2 : B = G := by omega
    have h3 : C = H := by omega
    omega

theorem hit_mod (p : Fin 16384) : (hit p).val % 4096 = (under p).val := by
  unfold hit; have := (under p).isLt; dsimp only; omega

/-- The one pair of a fine row. -/
theorem sum_fine (f : Fin 16384 → EReal) (p : Fin 16384) :
    ∑ k ∈ Finset.univ.filter (fun k : Fin 16384 => fineOf k.val = p.val), f k = f (hit p) := by
  rw [Finset.filter_congr fun k _ => fineOf_eq_iff k p, Finset.filter_eq', if_pos (Finset.mem_univ _), Finset.sum_singleton]

/-- The four pairs of a coarse row, weighted alike, are the weight times the sum over the four fine rows. -/
theorem sum_coarse (c : EReal) (h0 : 0 ≤ c) (h1 : c ≠ ⊤) (x : Fin 16384 → EReal) (n : Fin 4096) :
    ∑ k ∈ Finset.univ.filter (fun k : Fin 16384 => k.val % 4096 = n.val), c * x ⟨fineOf k.val, fineOf_lt k⟩ = c * quad x n := by
  rw [← mul_sum_of_nonneg _ _ h0 h1]
  refine congrArg (c * ·) ?_
  refine (sum_fibre (K := 4) (N := 4096) (fun k => x ⟨fineOf k.val, fineOf_lt k⟩) n).trans ?_
  rw [Fin.sum_univ_four]
  have hx : ∀ (q : Fin 4) (r : ℕ) (hr : r < 16384), fineOf (n.val + 4096 * q.val) = r →
      x ⟨fineOf (finProdFinEquiv (q, n)).val, fineOf_lt (finProdFinEquiv (q, n) : Fin (4 * 4096))⟩ = x ⟨r, hr⟩ := fun q r hr h =>
    congrArg x (Fin.ext h)
  have hn := n.isLt
  unfold quad
  rw [hx 0 (256 * (n.val / 64) + 2 * (n.val % 64)) (by omega) (by unfold fineOf; simp; omega),
    hx 1 (256 * (n.val / 64) + (2 * (n.val % 64) + 1)) (by omega) (by unfold fineOf; simp; omega),
    hx 2 (256 * (n.val / 64) + 128 + 2 * (n.val % 64)) (by omega) (by unfold fineOf; simp; omega),
    hx 3 (256 * (n.val / 64) + 128 + (2 * (n.val % 64) + 1)) (by omega) (by unfold fineOf; simp; omega)]
  abel

section

variable [Cert.ReferenceIdeal.Facts]

open Cert.ReferenceIdeal Cert.ReferenceIdeal.Facts₀ Cert.ReferenceIdeal.Read

/-- The shape relations of the product into coarse rows. -/
theorem spDown : SpShapes 16384 4096 where
  enter := transposes_S8x16384x128_S16384x8x128_1_0_2
  flat := shapeCasts_S16384x8x128_S16384x1024
  fold := shapeCasts_S4096x1024_S4096x8x128
  leave := transposes_S4096x8x128_S8x4096x128_1_0_2
  each := bcast_S_S16384
  column := bcast_S16384_S16384x1_0
  across := bcast_S16384x1_S16384x1024_0_1
  blank := bcast_S_S4096x1024
  take := gather_S16384x1024_S16384x1_S16384x1024_1_0_n_n_0_1_11024_wf
  add := scatter_S4096x1024_S16384x1_S16384x1024_1_0_0_1_wf

/-- The shape relations of the product into fine rows. -/
theorem spUp : SpShapes 4096 16384 where
  enter := transposes_S8x4096x128_S4096x8x128_1_0_2
  flat := shapeCasts_S4096x8x128_S4096x1024
  fold := shapeCasts_S16384x1024_S16384x8x128
  leave := transposes_S16384x8x128_S8x16384x128_1_0_2
  each := bcast_S_S16384
  column := bcast_S16384_S16384x1_0
  across := bcast_S16384x1_S16384x1024_0_1
  blank := bcast_S_S16384x1024
  take := gather_S4096x1024_S16384x1_S16384x1024_1_0_n_n_0_1_11024_wf
  add := scatter_S16384x1024_S16384x1_S16384x1024_1_0_0_1_wf

/-- The shape relations of the coarse rows' normalisation. -/
theorem normDown : NormShapes 4096 where
  sums := reducesTo_S8x4096x128_S8x4096_d2
  sums' := by decide
  keep := bcast_S8x4096_S8x4096x1_0_1
  one := bcast_S_S8x4096x1
  wide := bcast_S8x4096x1_S8x4096x128_0_1_2
  lanes := bcast_S128_S1x1x128_2
  rows := bcast_S1x1x128_S8x4096x128_0_1_2
  all := bcast_S_S8x4096x128
  pos := h_S_

/-- The shape relations of the fine rows' normalisation. -/
theorem normUp : NormShapes 16384 where
  sums := reducesTo_S8x16384x128_S8x16384_d2
  sums' := by decide
  keep := bcast_S8x16384_S8x16384x1_0_1
  one := bcast_S_S8x16384x1
  wide := bcast_S8x16384x1_S8x16384x128_0_1_2
  lanes := bcast_S128_S1x1x128_2
  rows := bcast_S1x1x128_S8x16384x128_0_1_2
  all := bcast_S_S8x16384x128
  pos := h_S_

variable (x0 : FVec Ideal S8x16384x128 .f32) (x1 : FVec Ideal S8x4096x128 .f32) (x2 x3 : FVec Ideal S128x128 .f32)
  (x4 x5 x6 x7 : FVec Ideal S128 .f32) (row col : IVec S16384 32) (vals : FVec Ideal S16384 .f32)

theorem v16_eq : val_main_v16 (F := Ideal) x0 row col vals = spDown.prod 16384#32 x0 col row vals := rfl

theorem v54_eq : val_main_v54 (F := Ideal) x1 row col vals = spUp.prod 4096#32 x1 row col vals := rfl

theorem v37_eq : val_main_v37 (F := Ideal) x0 x2 x4 x5 row col vals = normDown.norm (val_main_v18 (F := Ideal) x0 x2 row col vals) x4 x5 := rfl

theorem v75_eq : val_main_v75 (F := Ideal) x1 x3 x6 x7 row col vals = normUp.norm (val_main_v56 (F := Ideal) x1 x3 row col vals) x6 x7 := rfl

variable {row col vals}

/-- The reference's second result: coarse row `n` of batch `a`. -/
theorem coarse_apply (hc : IsCross row col vals) (a : Fin 8) (n : Fin 4096) (j : Fin 128) :
    val_main_v37 (F := Ideal) x0 x2 x4 x5 row col vals (ix3 a n j)
      = lnMul (fun j => x4 (ix1 j)) (fun j => x5 (ix1 j))
          (fun o => ∑ k, vals (ix1 ⟨n.val, by omega⟩) * quad (fun p => x0 (ix3 a p k)) n * x2 (ix2 o k)) j := by
  rw [v37_eq, normDown.norm_apply, lnDiv_eq]
  refine congrArg (fun f => lnMul _ _ f j) (funext fun o => ?_)
  rw [val_main_v18_apply]
  refine Finset.sum_congr rfl fun k _ => congrArg₂ (· * ·) ?_ ?_
  · rw [v16_eq]
    have hi : lidx_main_v18 (ix3 a n o) k = ix3 a n k := funext fun d => by
      match d with
      | ⟨0, _⟩ => rfl
      | ⟨1, _⟩ => rfl
      | ⟨2, _⟩ => rfl
    rw [hi, spDown.prod_apply 16384#32 x0 col row vals (fun k => ⟨fineOf k.val, fineOf_lt k⟩) (fun k => k.val % 4096) (by norm_num)
      hc.col (fun k => by omega) hc.row a n k]
    rw [← sum_coarse _ (hc.nonneg _) (hc.finite _)]
    refine Finset.sum_congr rfl fun q hq => congrArg (· * _) ?_
    rw [hc.same q]
    exact congrArg (fun i => vals (ix1 i)) (Fin.ext (Finset.mem_filter.mp hq).2)
  · rw [val_main_v17_apply]
    exact congrArg x2 (funext fun d => by
      match d with
      | ⟨0, _⟩ => rfl
      | ⟨1, _⟩ => rfl)

/-- The reference's first result: fine row `p` of batch `a`. -/
theorem fine_apply (hc : IsCross row col vals) (a : Fin 8) (p : Fin 16384) (j : Fin 128) :
    val_main_v75 (F := Ideal) x1 x3 x6 x7 row col vals (ix3 a p j)
      = lnMul (fun j => x6 (ix1 j)) (fun j => x7 (ix1 j))
          (fun o => ∑ k, vals (ix1 ⟨(under p).val, by omega⟩) * x1 (ix3 a (under p) k) * x3 (ix2 o k)) j := by
  rw [v75_eq, normUp.norm_apply, lnDiv_eq]
  refine congrArg (fun f => lnMul _ _ f j) (funext fun o => ?_)
  rw [val_main_v56_apply]
  refine Finset.sum_congr rfl fun k _ => congrArg₂ (· * ·) ?_ ?_
  · rw [v54_eq]
    have hi : lidx_main_v56 (ix3 a p o) k = ix3 a p k := funext fun d => by
      match d with
      | ⟨0, _⟩ => rfl
      | ⟨1, _⟩ => rfl
      | ⟨2, _⟩ => rfl
    rw [hi, spUp.prod_apply 4096#32 x1 row col vals (fun k => ⟨k.val % 4096, by omega⟩) (fun k => fineOf k.val) (by norm_num)
      hc.row (fun k => lt_trans (fineOf_lt k) (by norm_num)) hc.col a p k]
    rw [sum_fine, hc.same]
    have hm : ∀ h, (⟨(hit p).val % 4096, h⟩ : Fin 4096) = under p := fun _ => Fin.ext (hit_mod p)
    exact congrArg₂ (· * ·) (congrArg (fun i => vals (ix1 i)) (Fin.ext (hit_mod p))) (congrArg (fun i => x1 (ix3 a i k)) (hm _))
  · rw [val_main_v55_apply]
    exact congrArg x3 (funext fun d => by
      match d with
      | ⟨0, _⟩ => rfl
      | ⟨1, _⟩ => rfl)

end

end Cert.Cross
-- ==== Proof.Equation.lean ====
/- The equation: under the precondition the reference's two results are, entry by entry, the rows the kernel leaves. -/
module

public import proofs.«01_k».proof.Proof.KernelArrays
public import proofs.«01_k».proof.Proof.RefValue
public import proofs.«01_k».proof.Defs

@[expose] public section

noncomputable section

namespace Cert.Cross

open Idealize.ShloMosaic Idealize.ShloMosaic.ValueIdx Idealize.ShloMosaic.TcCoe
open Cert.ReferenceIdeal Cert.ReferenceIdeal.Read

section
variable [Cert.ReferenceIdeal.Facts] (x0 : FVec Ideal S8x16384x128 .f32) (x1 : FVec Ideal S8x4096x128 .f32)
  (w : FVec Ideal S128x128 .f32) (g b : FVec Ideal S128 .f32)
  {row col : IVec S16384 32} {vals : FVec Ideal S16384 .f32}

/-- The reference's coarse rows are the kernel's: the weight and the sum of the four fine rows are multiplied in the
    other order. -/
theorem coarse_eq (hc : IsCross row col vals) (a : Fin 8) (n : Fin 4096) (j : Fin 128) :
    val_main_v37 (F := Ideal) x0 w g b row col vals (ix3 a n j) = coarseRow x0 w g b vals a n j := by
  rw [coarse_apply x0 w g b hc a n j]
  refine lnMul_congr (fun _ => rfl) (fun _ => rfl) (fun o => ?_) j
  exact Finset.sum_congr rfl fun k _ => by rw [mul_comm (vals _)]

/-- The reference's fine rows are the kernel's: the weight, nonnegative and finite, is taken out of the product's sum. -/
theorem fine_eq (hc : IsCross row col vals) (a : Fin 8) (p : Fin 16384) (j : Fin 128) :
    val_main_v75 (F := Ideal) x1 w g b row col vals (ix3 a p j) = fineRow x1 w g b vals a p j := by
  rw [fine_apply x1 w g b hc a p j]
  refine lnMul_congr (fun _ => rfl) (fun _ => rfl) (fun o => ?_) j
  rw [mul_sum_of_nonneg _ _ (hc.nonneg _) (hc.finite _)]
  exact Finset.sum_congr rfl fun k _ => mul_assoc _ _ _
end

/-- The precondition, read at a memory of the kernel. -/
theorem isCross_of [Cert.Pre_cross_matrix.Facts]
    (m : (ℓ : Loc Cert.KernelIdeal.nD Cert.KernelIdeal.τ Cert.KernelIdeal.sig) → Buf (Elt Ideal) ℓ)
    (h : Cert.Pre_KernelIdeal_cross_matrix m) (c : Dev Cert.KernelIdeal.nD) :
    IsCross (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) where
  row := row_of _ _ _ _ _ _ _ _ _ _ _ (h c).1
  col := col_of _ _ _ _ _ _ _ _ _ _ _ (h c).2.1
  same := vals_of _ _ _ _ _ _ _ _ _ _ _ (h c).2.2.1
  nonneg := nonneg_of _ _ _ _ _ _ _ _ _ _ _ (h c).2.2.2.1
  finite := finite_of _ _ _ _ _ _ _ _ _ _ _ (h c).2.2.2.2

end Cert.Cross
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Idealize.ShloMosaic.TcCoe Idealize.ShloMosaic.ValueIdx

/-- The reference's frame: its run leaves the arguments as they were, and the program declares no semaphore. -/
theorem frame_reference : quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩)
    (Cert.ReferenceIdeal.Value.run (F := Ideal) m g)

section
open Cert.KernelIdeal Cert.KernelIdeal.Gen

/-- A result of the kernel: what the last host operations make of the region's arrays. -/
abbrev result (m : (ℓ : Loc nD τ sig) → Buf (Elt Ideal) ℓ) (b : Ref sig .tc) (c : Dev nD) : Buf (Elt Ideal) ((c : Thread nD τ).loc b) :=
  Pipeline.afterTail₀ cfgs (dats m) 0 (V0 m) [hostOps1] c b

/-- The kernel's run leaves its two results. -/
theorem run_results (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c : Thread nD τ).loc main_v17) = result m main_v17 c
      ∧ r.2.mem ((c : Thread nD τ).loc main_v18) = result m main_v18 c) :=
  (θ_run defs _ _).mono
    (fun _ h c => ⟨(h c).2 main_v17 (Pipeline.mem_restRefs_of main_v17 (by decide) (by decide)),
      (h c).2 main_v18 (Pipeline.mem_restRefs_of main_v18 (by decide) (by decide))⟩)
    (run_main (F := Ideal) m g)
end

/-- Kernel and reference compute the same two results. -/
theorem same_results :
    algebraic_KernelIdeal_ReferenceIdeal_pre_cross_matrix (hKernelIdeal := Cert.KernelIdeal.Gen.facts)
      (hReferenceIdeal := Cert.ReferenceIdeal.Gen.facts) (hPre_cross_matrix := Cert.Cross.preFacts) := by
  intro m g m' g' hpre hagree
  refine ⟨result m Cert.KernelIdeal.main_v17, result m Cert.KernelIdeal.main_v18,
    (θ_run (Cert.KernelIdeal.defs (F := Ideal)) _ _).mono (fun r h c => ⟨(h.1 c).1, (h.1 c).2, h.2 c⟩)
      (θ_run_and (run_results m g) (Cert.KernelIdeal.Gen.unchanged (F := Ideal) m g)),
    (θ_run (Cert.ReferenceIdeal.defs (F := Ideal)) _ _).mono
    (fun r h c => ⟨(h c).1.trans ?_, (h c).2.1.trans ?_, (h c).2.2⟩) (Cert.ReferenceIdeal.Value.run (F := Ideal) m' g')⟩
  all_goals
    have hc := @Cert.Cross.isCross_of Cert.Cross.preFacts m hpre c
    obtain ⟨e0, e1, e2, e3, e4, e5, e6, e7, e8, e9, e10⟩ := hagree c
  · rw [Cert.ReferenceIdeal.Read.val_main_v75_eq, e1, e3, e6, e7, e8, e9, e10]
    funext i
    obtain ⟨a, p, j, rfl⟩ : ∃ (a : Fin 8) (p : Fin 16384) (j : Fin 128), i = ix3 a p j := ⟨i 0, i 1, i 2, eq_ix3 i⟩
    exact (Cert.Cross.fine_eq _ _ _ _ hc a p j).trans (Cert.Cross.fine_result m c a p j).symm
  · rw [Cert.ReferenceIdeal.Read.val_main_v37_eq, e0, e2, e4, e5, e8, e9, e10]
    funext i
    obtain ⟨a, n, j, rfl⟩ : ∃ (a : Fin 8) (n : Fin 4096) (j : Fin 128), i = ix3 a n j := ⟨i 0, i 1, i 2, eq_ix3 i⟩
    exact (Cert.Cross.coarse_eq _ _ _ _ hc a n j).trans (Cert.Cross.coarse_result m c a n j).symm

theorem claim : Cert.Claim :=
  ⟨Cert.Kernel.Gen.facts, Cert.KernelIdeal.Gen.facts, Cert.ReferenceIdeal.Gen.facts, Cert.Cross.preFacts,
    fun m g _ => Cert.Kernel.Gen.frame m g,
    fun m g _ => Cert.KernelIdeal.Gen.frame m g, fun m g _ => Cert.KernelIdeal.Gen.frame m g,
    frame_reference, fun m g _ => frame_reference m g trivial,
    trivial, same_results⟩

end Cert.Proof

end
